-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qk_scale" .f32 0x3E38AA3B#32 ((8⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x8x64 : Shape := ⟨4, ![8, 4096, 8, 64]⟩
abbrev S8x8x4096x64 : Shape := ⟨4, ![8, 8, 4096, 64]⟩
abbrev S_ : Shape := ⟨0, ![]⟩
abbrev S8x4096x2x12 : Shape := ⟨4, ![8, 4096, 2, 12]⟩
abbrev S2x8x4096x12 : Shape := ⟨4, ![2, 8, 4096, 12]⟩
abbrev S2x8x4096x128 : Shape := ⟨4, ![2, 8, 4096, 128]⟩
abbrev S8x1x4096x128 : Shape := ⟨4, ![8, 1, 4096, 128]⟩
abbrev S8x1x4096x512 : Shape := ⟨4, ![8, 1, 4096, 512]⟩
abbrev S8x1x512x64 : Shape := ⟨4, ![8, 1, 512, 64]⟩
abbrev S1x1x512x128 : Shape := ⟨4, ![1, 1, 512, 128]⟩
abbrev S2x1x512x128 : Shape := ⟨4, ![2, 1, 512, 128]⟩
abbrev S1x1x512x512 : Shape := ⟨4, ![1, 1, 512, 512]⟩
abbrev S1x1024x128 : Shape := ⟨3, ![1, 1024, 128]⟩
abbrev S640x512 : Shape := ⟨2, ![640, 512]⟩
abbrev S5x640x512 : Shape := ⟨3, ![5, 640, 512]⟩
abbrev S512x128 : Shape := ⟨2, ![512, 128]⟩
abbrev S1x512x128 : Shape := ⟨3, ![1, 512, 128]⟩
abbrev S640x128 : Shape := ⟨2, ![640, 128]⟩
abbrev S1x640x512 : Shape := ⟨3, ![1, 640, 512]⟩
abbrev S1x1x128x64 : Shape := ⟨4, ![1, 1, 128, 64]⟩
abbrev S128x64 : Shape := ⟨2, ![128, 64]⟩
abbrev S512x64 : Shape := ⟨2, ![512, 64]⟩
abbrev S1x640x64 : Shape := ⟨3, ![1, 640, 64]⟩
abbrev S640x64 : Shape := ⟨2, ![640, 64]⟩
abbrev S512 : Shape := ⟨1, ![512]⟩
abbrev S1x512 : Shape := ⟨2, ![1, 512]⟩
abbrev S1x640x128 : Shape := ⟨3, ![1, 640, 128]⟩
abbrev S128x512 : Shape := ⟨2, ![128, 512]⟩
abbrev S64x128 : Shape := ⟨2, ![64, 128]⟩
abbrev S1x128 : Shape := ⟨2, ![1, 128]⟩
abbrev S1x1x128x1 : Shape := ⟨4, ![1, 1, 128, 1]⟩
abbrev S128x1 : Shape := ⟨2, ![128, 1]⟩
abbrev S1x1x128x512 : Shape := ⟨4, ![1, 1, 128, 512]⟩

abbrev nBuf : Space → Nat
  | .hbm => 24
  | .vmem => 19
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x4096x24, .f32⟩
  | .hbm, ⟨4, _⟩ => ⟨S8x4096x8x64, .f32⟩
  | .hbm, ⟨5, _⟩ => ⟨S8x8x4096x64, .f32⟩
  | .hbm, ⟨6, _⟩ => ⟨S8x4096x24, .f32⟩
  | .hbm, ⟨7, _⟩ => ⟨S8x4096x24, .f32⟩
  | .hbm, ⟨8, _⟩ => ⟨S_, .f32⟩
  | .hbm, ⟨9, _⟩ => ⟨S8x4096x24, .f32⟩
  | .hbm, ⟨10, _⟩ => ⟨S8x4096x24, .f32⟩
  | .hbm, ⟨11, _⟩ => ⟨S_, .f32⟩
  | .hbm, ⟨12, _⟩ => ⟨S8x4096x24, .f32⟩
  | .hbm, ⟨13, _⟩ => ⟨S8x4096x24, .f32⟩
  | .hbm, ⟨14, _⟩ => ⟨S8x4096x2x12, .f32⟩
  | .hbm, ⟨15, _⟩ => ⟨S2x8x4096x12, .f32⟩
  | .hbm, ⟨16, _⟩ => ⟨S_, .i32⟩
  | .hbm, ⟨17, _⟩ => ⟨S_, .f32⟩
  | .hbm, ⟨18, _⟩ => ⟨S2x8x4096x128, .f32⟩
  | .hbm, ⟨19, _⟩ => ⟨S8x4096x128, .bf16⟩
  | .hbm, ⟨20, _⟩ => ⟨S8x1x4096x128, .bf16⟩
  | .hbm, ⟨21, _⟩ => ⟨S8x4096x128, .bf16⟩
  | .hbm, ⟨22, _⟩ => ⟨S8x1x4096x128, .bf16⟩
  | .hbm, ⟨23, _⟩ => ⟨S8x1x4096x512, .bf16⟩
  | .local _ .vmem, ⟨0, _⟩ => ⟨S8x1x512x64, .f32⟩
  | .local _ .vmem, ⟨1, _⟩ => ⟨S8x1x512x64, .f32⟩
  | .local _ .vmem, ⟨2, _⟩ => ⟨S1x1x512x128, .bf16⟩
  | .local _ .vmem, ⟨3, _⟩ => ⟨S1x1x512x128, .bf16⟩
  | .local _ .vmem, ⟨4, _⟩ => ⟨S1x1x512x128, .bf16⟩
  | .local _ .vmem, ⟨5, _⟩ => ⟨S1x1x512x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S2x1x512x128, .f32⟩
  | .local _ .vmem, ⟨11, _⟩ => ⟨S2x1x512x128, .f32⟩
  | .local _ .vmem, ⟨12, _⟩ => ⟨S1x1x512x512, .bf16⟩
  | .local _ .vmem, ⟨13, _⟩ => ⟨S1x1x512x512, .bf16⟩
  | .local _ .vmem, ⟨14, _⟩ => ⟨S1x1024x128, .bf16⟩
  | .local _ .vmem, ⟨15, _⟩ => ⟨S1x1024x128, .bf16⟩
  | .local _ .vmem, ⟨16, _⟩ => ⟨S640x512, .f32⟩
  | .local _ .vmem, ⟨17, _⟩ => ⟨S640x512, .f32⟩
  | .local _ .vmem, ⟨18, _⟩ => ⟨S5x640x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c0_i32_26 : BitVec 32 := 0#32
  let v35 : BitVec 1 := Scalar.cmpi .eq arg2 c0_i32_26
  let v36 : BitVec 32 := Scalar.extui v35
  let c0_i32_27 : BitVec 32 := 0#32
  let v37 : BitVec 1 := Scalar.cmpi .ne v36 c0_i32_27
  v37

def k0_cond2 (i : grid0.Coords) : BitVec 1 :=
  let arg2 : BitVec 32 := BitVec.ofNat 32 (i 2).val
  let c0_i32_26 : BitVec 32 := 0#32
  let v35 : BitVec 1 := Scalar.cmpi .eq arg2 c0_i32_26
  let v_true : BitVec 1 := 1#1
  let v38 : BitVec 1 := Scalar.xori v35 v_true
  let v39 : BitVec 32 := Scalar.extui v38
  let c0_i32_28 : BitVec 32 := 0#32
  let v40 : BitVec 1 := Scalar.cmpi .ne v39 c0_i32_28
  v40

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, arg1.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, arg1.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S8x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "qk_scale" => some ((8⁻¹ * (Real.log 2)⁻¹ : ℝ) : EReal)
  | _ => none
-- ==== ReferenceIdeal.lean ====
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x2x4x64 : Shape := ⟨5, ![8, 4096, 2, 4, 64]⟩
abbrev S8x2x4x4096x64 : Shape := ⟨5, ![8, 2, 4, 4096, 64]⟩
abbrev S8x4096x2x64 : Shape := ⟨4, ![8, 4096, 2, 64]⟩
abbrev S8x2x4096x64 : Shape := ⟨4, ![8, 2, 4096, 64]⟩
abbrev S8x2x4x4096x4096 : Shape := ⟨5, ![8, 2, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x4x4096 : Shape := ⟨4, ![8, 2, 4, 4096]⟩
abbrev S8x2x4x4096x1 : Shape := ⟨5, ![8, 2, 4, 4096, 1]⟩
abbrev S8x4096x8x3 : Shape := ⟨4, ![8, 4096, 8, 3]⟩
abbrev S8x8x4096x3 : Shape := ⟨4, ![8, 8, 4096, 3]⟩
abbrev S8x2x4x4096x3 : Shape := ⟨5, ![8, 2, 4, 4096, 3]⟩
abbrev S8x8x4096x64 : Shape := ⟨4, ![8, 8, 4096, 64]⟩
abbrev S8x4096x8x64 : Shape := ⟨4, ![8, 4096, 8, 64]⟩
abbrev S8x1x4096x512 : Shape := ⟨4, ![8, 1, 4096, 512]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x4096x24, .f32⟩
  | .hbm, ⟨4, _⟩ => ⟨S8x4096x2x4x64, .f32⟩
  | .hbm, ⟨5, _⟩ => ⟨S8x2x4x4096x64, .f32⟩
  | .hbm, ⟨6, _⟩ => ⟨S8x4096x2x64, .f32⟩
  | .hbm, ⟨7, _⟩ => ⟨S8x2x4096x64, .f32⟩
  | .hbm, ⟨8, _⟩ => ⟨S8x4096x2x64, .f32⟩
  | .hbm, ⟨9, _⟩ => ⟨S8x2x4096x64, .f32⟩
  | .hbm, ⟨10, _⟩ => ⟨S8x2x4x4096x4096, .f32⟩
  | .hbm, ⟨11, _⟩ => ⟨S_, .f32⟩
  | .hbm, ⟨12, _⟩ => ⟨S8x2x4x4096x4096, .f32⟩
  | .hbm, ⟨13, _⟩ => ⟨S8x2x4x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x2x4x4096x4096, .i1⟩
  | .hbm, ⟨31, _⟩ => ⟨S8x2x4x4096x4096, .f32⟩
  | .hbm, ⟨32, _⟩ => ⟨S8x2x4x4096x4096, .f32⟩
  | .hbm, ⟨33, _⟩ => ⟨S_, .f32⟩
  | .hbm, ⟨34, _⟩ => ⟨S8x2x4x4096, .f32⟩
  | .hbm, ⟨35, _⟩ => ⟨S8x2x4x4096x1, .f32⟩
  | .hbm, ⟨36, _⟩ => ⟨S8x2x4x4096x4096, .f32⟩
  | .hbm, ⟨37, _⟩ => ⟨S8x2x4x4096x4096, .f32⟩
  | .hbm, ⟨38, _⟩ => ⟨S8x2x4x4096x4096, .f32⟩
  | .hbm, ⟨39, _⟩ => ⟨S_, .f32⟩
  | .hbm, ⟨40, _⟩ => ⟨S_, .f32⟩
  | .hbm, ⟨41, _⟩ => ⟨S8x2x4x4096x4096, .i1⟩
  | .hbm, ⟨42, _⟩ => ⟨S8x2x4x4096x4096, .f32⟩
  | .hbm, ⟨43, _⟩ => ⟨S8x2x4x4096x4096, .f32⟩
  | .hbm, ⟨44, _⟩ => ⟨S_, .f32⟩
  | .hbm, ⟨45, _⟩ => ⟨S8x2x4x4096, .f32⟩
  | .hbm, ⟨46, _⟩ => ⟨S_, .f32⟩
  | .hbm, ⟨47, _⟩ => ⟨S8x2x4x4096, .f32⟩
  | .hbm, ⟨48, _⟩ => ⟨S8x2x4x4096, .i1⟩
  | .hbm, ⟨49, _⟩ => ⟨S_, .f32⟩
  | .hbm, ⟨50, _⟩ => ⟨S_, .f32⟩
  | .hbm, ⟨51, _⟩ => ⟨S8x2x4x4096, .f32⟩
  | .hbm, ⟨52, _⟩ => ⟨S8x2x4x4096, .f32⟩
  | .hbm, ⟨53, _⟩ => ⟨S8x2x4x4096x64, .f32⟩
  | .hbm, ⟨54, _⟩ => ⟨S8x2x4x4096x1, .f32⟩
  | .hbm, ⟨55, _⟩ => ⟨S8x2x4x4096x64, .f32⟩
  | .hbm, ⟨56, _⟩ => ⟨S8x2x4x4096x64, .f32⟩
  | .hbm, ⟨57, _⟩ => ⟨S8x4096x24, .f32⟩
  | .hbm, ⟨58, _⟩ => ⟨S8x4096x24, .f32⟩
  | .hbm, ⟨59, _⟩ => ⟨S_, .f32⟩
  | .hbm, ⟨60, _⟩ => ⟨S8x4096x24, .f32⟩
  | .hbm, ⟨61, _⟩ => ⟨S8x4096x24, .f32⟩
  | .hbm, ⟨62, _⟩ => ⟨S_, .f32⟩
  | .hbm, ⟨63, _⟩ => ⟨S8x4096x24, .f32⟩
  | .hbm, ⟨64, _⟩ => ⟨S8x4096x24, .f32⟩
  | .hbm, ⟨65, _⟩ => ⟨S8x4096x8x3, .f32⟩
  | .hbm, ⟨66, _⟩ => ⟨S8x8x4096x3, .f32⟩
  | .hbm, ⟨67, _⟩ => ⟨S8x2x4x4096x3, .f32⟩
  | .hbm, ⟨68, _⟩ => ⟨S8x2x4x4096x1, .f32⟩
  | .hbm, ⟨69, _⟩ => ⟨S8x2x4x4096x64, .f32⟩
  | .hbm, ⟨70, _⟩ => ⟨S8x2x4x4096x64, .f32⟩
  | .hbm, ⟨71, _⟩ => ⟨S8x8x4096x64, .f32⟩
  | .hbm, ⟨72, _⟩ => ⟨S8x4096x8x64, .f32⟩
  | .hbm, ⟨73, _⟩ => ⟨S8x1x4096x512, .f32⟩
  | .hbm, ⟨74, _⟩ => ⟨S8x1x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_call2_v0 : Ref sig .tc := ⟨.hbm, 50, rfl⟩
abbrev main_call2_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S2x2x1024x5632, .bf16⟩
  | .hbm, ⟨5, _⟩ => ⟨S2x2x2816x1024, .bf16⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1x1x1024x5632, .f32⟩
  | .hbm, ⟨21, _⟩ => ⟨S1024x5632, .f32⟩
  | .hbm, ⟨22, _⟩ => ⟨S1x1x2816x1024, .f32⟩
  | .hbm, ⟨23, _⟩ => ⟨S2816x1024, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S8x1x4096x256 : Shape := ⟨4, ![8, 1, 4096, 256]⟩
abbrev S8x4x1024x256 : Shape := ⟨4, ![8, 4, 1024, 256]⟩
abbrev S8x16x256x256 : Shape := ⟨4, ![8, 16, 256, 256]⟩
abbrev S32768x256 : Shape := ⟨2, ![32768, 256]⟩
abbrev S512x1024 : Shape := ⟨2, ![512, 1024]⟩
abbrev S1x1024 : Shape := ⟨2, ![1, 1024]⟩
abbrev S1x1x1024x5632 : Shape := ⟨4, ![1, 1, 1024, 5632]⟩
abbrev S1x1x2816x1024 : Shape := ⟨4, ![1, 1, 2816, 1024]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S512x256 : Shape := ⟨2, ![512, 256]⟩
abbrev S512x2816 : Shape := ⟨2, ![512, 2816]⟩
abbrev S512x128 : Shape := ⟨2, ![512, 128]⟩
abbrev S1x1x128x128 : Shape := ⟨4, ![1, 1, 128, 128]⟩
abbrev S128x128 : Shape := ⟨2, ![128, 128]⟩
abbrev S1x1x32x128 : Shape := ⟨4, ![1, 1, 32, 128]⟩
abbrev S32x128 : Shape := ⟨2, ![32, 128]⟩
abbrev S256x1024 : Shape := ⟨2, ![256, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 19
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S1024, .f32⟩
  | .hbm, ⟨5, _⟩ => ⟨S8x1x4096x256, .bf16⟩
  | .hbm, ⟨6, _⟩ => ⟨S8x4x1024x256, .bf16⟩
  | .hbm, ⟨7, _⟩ => ⟨S8x16x256x256, .bf16⟩
  | .hbm, ⟨8, _⟩ => ⟨S8x1x4096x256, .f32⟩
  | .hbm, ⟨9, _⟩ => ⟨S8x4x1024x256, .f32⟩
  | .hbm, ⟨10, _⟩ => ⟨S8x16x256x256, .f32⟩
  | .hbm, ⟨11, _⟩ => ⟨S32768x256, .bf16⟩
  | .hbm, ⟨12, _⟩ => ⟨S512x1024, .f32⟩
  | .hbm, ⟨13, _⟩ => ⟨S512x1024, .bf16⟩
  | .hbm, ⟨14, _⟩ => ⟨S2x2x1024x5632, .bf16⟩
  | .hbm, ⟨15, _⟩ => ⟨S2x2x2816x1024, .bf16⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1x1x512x256, .bf16⟩
  | .local _ .vmem, ⟨7, _⟩ => ⟨S1x1x512x256, .bf16⟩
  | .local _ .vmem, ⟨8, _⟩ => ⟨S1x4x128x256, .bf16⟩
  | .local _ .vmem, ⟨9, _⟩ => ⟨S1x4x128x256, .bf16⟩
  | .local _ .vmem, ⟨10, _⟩ => ⟨S1x16x32x256, .bf16⟩
  | .local _ .vmem, ⟨11, _⟩ => ⟨S1x16x32x256, .bf16⟩
  | .local _ .vmem, ⟨12, _⟩ => ⟨S1x1x512x256, .f32⟩
  | .local _ .vmem, ⟨13, _⟩ => ⟨S1x1x512x256, .f32⟩
  | .local _ .vmem, ⟨14, _⟩ => ⟨S1x4x128x256, .f32⟩
  | .local _ .vmem, ⟨15, _⟩ => ⟨S1x4x128x256, .f32⟩
  | .local _ .vmem, ⟨16, _⟩ => ⟨S1x16x32x256, .f32⟩
  | .local _ .vmem, ⟨17, _⟩ => ⟨S1x16x32x256, .f32⟩
  | .local _ .vmem, ⟨18, _⟩ => ⟨S512x256, .bf16⟩
  | .local _ .vmem, ⟨19, _⟩ => ⟨S512x256, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x2816, .bf16⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S8x1x4096x256 : Shape := ⟨4, ![8, 1, 4096, 256]⟩
abbrev S8x4x1024x256 : Shape := ⟨4, ![8, 4, 1024, 256]⟩
abbrev S8x16x256x256 : Shape := ⟨4, ![8, 16, 256, 256]⟩
abbrev S32768x256 : Shape := ⟨2, ![32768, 256]⟩
abbrev S512x1024 : Shape := ⟨2, ![512, 1024]⟩
abbrev S8x4096x1x256 : Shape := ⟨4, ![8, 4096, 1, 256]⟩
abbrev S8x1024x4x256 : Shape := ⟨4, ![8, 1024, 4, 256]⟩
abbrev S8x256x16x256 : Shape := ⟨4, ![8, 256, 16, 256]⟩
abbrev S1x32768x256 : Shape := ⟨3, ![1, 32768, 256]⟩
abbrev S3x32768x256 : Shape := ⟨3, ![3, 32768, 256]⟩
abbrev S_ : Shape := ⟨0, ![]⟩
abbrev S32768x512 : Shape := ⟨2, ![32768, 512]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 111
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S1024, .f32⟩
  | .hbm, ⟨5, _⟩ => ⟨S8x1x4096x256, .bf16⟩
  | .hbm, ⟨6, _⟩ => ⟨S8x4x1024x256, .bf16⟩
  | .hbm, ⟨7, _⟩ => ⟨S8x16x256x256, .bf16⟩
  | .hbm, ⟨8, _⟩ => ⟨S8x1x4096x256, .f32⟩
  | .hbm, ⟨9, _⟩ => ⟨S8x4x1024x256, .f32⟩
  | .hbm, ⟨10, _⟩ => ⟨S8x16x256x256, .f32⟩
  | .hbm, ⟨11, _⟩ => ⟨S32768x256, .bf16⟩
  | .hbm, ⟨12, _⟩ => ⟨S512x1024, .f32⟩
  | .hbm, ⟨13, _⟩ => ⟨S8x1x4096x256, .f32⟩
  | .hbm, ⟨14, _⟩ => ⟨S8x4096x1x256, .f32⟩
  | .hbm, ⟨15, _⟩ => ⟨S32768x256, .f32⟩
  | .hbm, ⟨16, _⟩ => ⟨S8x4x1024x256, .f32⟩
  | .hbm, ⟨17, _⟩ => ⟨S8x1024x4x256, .f32⟩
  | .hbm, ⟨18, _⟩ => ⟨S32768x256, .f32⟩
  | .hbm, ⟨19, _⟩ => ⟨S8x16x256x256, .f32⟩
  | .hbm, ⟨20, _⟩ => ⟨S8x256x16x256, .f32⟩
  | .hbm, ⟨21, _⟩ => ⟨S32768x256, .f32⟩
  | .hbm, ⟨22, _⟩ => ⟨S1x32768x256, .f32⟩
  | .hbm, ⟨23, _⟩ => ⟨S1x32768x256, .f32⟩
  | .hbm, ⟨24, _⟩ => ⟨S1x32768x256, .f32⟩
  | .hbm, ⟨25, _⟩ => ⟨S3x32768x256, .f32⟩
  | .hbm, ⟨26, _⟩ => ⟨S8x4096x1x256, .f32⟩
  | .hbm, ⟨27, _⟩ => ⟨S32768x256, .f32⟩
  | .hbm, ⟨28, _⟩ => ⟨S8x1024x4x256, .f32⟩
  | .hbm, ⟨29, _⟩ => ⟨S32768x256, .f32⟩
  | .hbm, ⟨30, _⟩ => ⟨S8x256x16x256, .f32⟩
  | .hbm, ⟨31, _⟩ => ⟨S32768x256, .f32⟩
  | .hbm, ⟨32, _⟩ => ⟨S1x32768x256, .f32⟩
  | .hbm, ⟨33, _⟩ => ⟨S1x32768x256, .f32⟩
  | .hbm, ⟨34, _⟩ => ⟨S1x32768x256, .f32⟩
  | .hbm, ⟨35, _⟩ => ⟨S3x32768x256, .f32⟩
  | .hbm, ⟨36, _⟩ => ⟨S_, .f32⟩
  | .hbm, ⟨37, _⟩ => ⟨S32768x256, .f32⟩
  | .hbm, ⟨38, _⟩ => ⟨S_, .f32⟩
  | .hbm, ⟨39, _⟩ => ⟨S32768x256, .f32⟩
  | .hbm, ⟨40, _⟩ => ⟨S32768x256, .f32⟩
  | .hbm, ⟨41, _⟩ => ⟨S1x32768x256, .f32⟩
  | .hbm, ⟨42, _⟩ => ⟨S3x32768x256, .f32⟩
  | .hbm, ⟨43, _⟩ => ⟨S3x32768x256, .f32⟩
  | .hbm, ⟨44, _⟩ => ⟨S3x32768x256, .f32⟩
  | .hbm, ⟨45, _⟩ => ⟨S_, .f32⟩
  | .hbm, ⟨46, _⟩ => ⟨S32768x256, .f32⟩
  | .hbm, ⟨47, _⟩ => ⟨S1x32768x256, .f32⟩
  | .hbm, ⟨48, _⟩ => ⟨S3x32768x256, .f32⟩
  | .hbm, ⟨49, _⟩ => ⟨S3x32768x256, .f32⟩
  | .hbm, ⟨50, _⟩ => ⟨S3x32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S32768x512, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S1x1024, .f32⟩
  | .hbm, ⟨71, _⟩ => ⟨S32768x1024, .f32⟩
  | .hbm, ⟨72, _⟩ => ⟨S32768x1024, .f32⟩
  | .hbm, ⟨73, _⟩ => ⟨S1x1x1024x5632, .f32⟩
  | .hbm, ⟨74, _⟩ => ⟨S1024x5632, .f32⟩
  | .hbm, ⟨75, _⟩ => ⟨S1x1x2816x1024, .f32⟩
  | .hbm, ⟨76, _⟩ => ⟨S2816x1024, .f32⟩
  | .hbm, ⟨77, _⟩ => ⟨S32768x5632, .f32⟩
  | .hbm, ⟨78, _⟩ => ⟨S32768x2816, .f32⟩
  | .hbm, ⟨79, _⟩ => ⟨S32768x2816, .f32⟩
  | .hbm, ⟨80, _⟩ => ⟨S32768x2816, .f32⟩
  | .hbm, ⟨81, _⟩ => ⟨S32768x2816, .f32⟩
  | .hbm, ⟨82, _⟩ => ⟨S_, .f32⟩
  | .hbm, ⟨83, _⟩ => ⟨S32768x2816, .f32⟩
  | .hbm, ⟨84, _⟩ => ⟨S32768x2816, .f32⟩
  | .hbm, ⟨85, _⟩ => ⟨S_, .f32⟩
  | .hbm, ⟨86, _⟩ => ⟨S32768x2816, .f32⟩
  | .hbm, ⟨87, _⟩ => ⟨S32768x2816, .f32⟩
  | .hbm, ⟨88, _⟩ => ⟨S32768x2816, .f32⟩
  | .hbm, ⟨89, _⟩ => ⟨S32768x2816, .f32⟩
  | .hbm, ⟨90, _⟩ => ⟨S32768x1024, .f32⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S_, .f32⟩
  | .hbm, ⟨97, _⟩ => ⟨S32768, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S32768x1, .f32⟩
  | .hbm, ⟨106, _⟩ => ⟨S32768x1024, .f32⟩
  | .hbm, ⟨107, _⟩ => ⟨S32768x1024, .f32⟩
  | .hbm, ⟨108, _⟩ => ⟨S1x1024, .f32⟩
  | .hbm, ⟨109, _⟩ => ⟨S32768x1024, .f32⟩
  | .hbm, ⟨110, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩
abbrev main_cst_8 : Ref sig .tc := ⟨.hbm, 99, rfl⟩
abbrev main_v69 : Ref sig .tc := ⟨.hbm, 100, rfl⟩
abbrev main_v70 : Ref sig .tc := ⟨.hbm, 101, rfl⟩
abbrev main_cst_9 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S32768x512 : Shape := ⟨2, ![32768, 512]⟩
abbrev S1024x1024 : Shape := ⟨2, ![1024, 1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 14
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S1024x1024, .f32⟩
  | .hbm, ⟨9, _⟩ => ⟨S2x2x1024x5632, .bf16⟩
  | .hbm, ⟨10, _⟩ => ⟨S2x2x2816x1024, .bf16⟩
  | .hbm, ⟨11, _⟩ => ⟨S1024x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S32768x512 : Shape := ⟨2, ![32768, 512]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x2x1024x5632, .f32⟩
  | .hbm, ⟨3, _⟩ => ⟨S2x2x2816x1024, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S1024x1024, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S1x1x1024x5632, .f32⟩
  | .hbm, ⟨35, _⟩ => ⟨S1024x5632, .f32⟩
  | .hbm, ⟨36, _⟩ => ⟨S1x1x2816x1024, .f32⟩
  | .hbm, ⟨37, _⟩ => ⟨S2816x1024, .f32⟩
  | .hbm, ⟨38, _⟩ => ⟨S32768x5632, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S_, .f32⟩
  | .hbm, ⟨44, _⟩ => ⟨S32768x2816, .f32⟩
  | .hbm, ⟨45, _⟩ => ⟨S32768x2816, .f32⟩
  | .hbm, ⟨46, _⟩ => ⟨S_, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Spec.lean ====
module

public import Idealize.ShloMosaic.Lib.Pointwise

@[expose] public section
noncomputable section
namespace Cert.Spec
open Idealize.ShloMosaic

/-- A row divided by the root of its mean square (a small constant added), times a gain, at position `k`. -/
def normed (x g : Fin 1024 → EReal) (k : Fin 1024) : EReal :=
  x k * Ideal.rsqrt (Ideal.div (∑ j, x j * x j) (Ideal.ofBits FTy.f32 1149239296#32)
    + Ideal.ofBits FTy.f32 897988541#32) * g k

/-- The gate's value times its logistic times the other projection. -/
def gated (a b : EReal) : EReal := a * Ideal.logistic a * b

/-- Hidden unit `f` of a normalised row: gate column `f` against column `2816 + f` of the first weights. -/
def hiddenUnit (y : Fin 1024 → EReal) (wi : Fin 1024 → Fin 5632 → EReal) (f : Fin 2816) : EReal :=
  gated (∑ k, y k * wi k ⟨f.val, by omega⟩) (∑ k, y k * wi k ⟨2816 + f.val, by omega⟩)

/-- The feed-forward block of one row: the row plus half of the gated two-layer map of its normalisation. -/
def ffn (x g : Fin 1024 → EReal) (wi : Fin 1024 → Fin 5632 → EReal) (wo : Fin 2816 → Fin 1024 → EReal)
    (c : Fin 1024) : EReal :=
  x c + Ideal.ofBits FTy.f32 1056964608#32 * ∑ f, hiddenUnit (normed x g) wi f * wo f c

/-- A residual row plus the even layer's output projection: the product of the first branch with the upper half of
the weights, and of the sum of the three gated branches with the lower half. -/
def evenMix (h : Fin 1024 → EReal) (oa ob oc od : Fin 512 → EReal) (w : Fin 1024 → Fin 1024 → EReal) (c : Fin 1024) : EReal :=
  h c + (∑ k : Fin 512, oa k * w ⟨k.val, by omega⟩ c + ∑ k : Fin 512, (ob k + oc k + od k) * w ⟨512 + k.val, by omega⟩ c)

/-- Three values merged with the softmax of their weights' logarithms. -/
def merged (a b c x y z : EReal) : EReal :=
  Ideal.div (Ideal.exp (a - max (max a b) c)) (Ideal.exp (a - max (max a b) c) + Ideal.exp (b - max (max a b) c) + Ideal.exp (c - max (max a b) c)) * x
    + Ideal.div (Ideal.exp (b - max (max a b) c)) (Ideal.exp (a - max (max a b) c) + Ideal.exp (b - max (max a b) c) + Ideal.exp (c - max (max a b) c)) * y
    + Ideal.div (Ideal.exp (c - max (max a b) c)) (Ideal.exp (a - max (max a b) c) + Ideal.exp (b - max (max a b) c) + Ideal.exp (c - max (max a b) c)) * z

/-- A residual row plus the odd layer's output projection: the product of the merged groups with the upper half of the
weights, and of the last branch with the lower half. -/
def oddMix (h : Fin 1024 → EReal) (l1 l4 l16 o1 o4 o16 od : Fin 256 → EReal) (w : Fin 512 → Fin 1024 → EReal) (c : Fin 1024) : EReal :=
  h c + (∑ k : Fin 256, merged (l1 k) (l4 k) (l16 k) (o1 k) (o4 k) (o16 k) * w ⟨k.val, by omega⟩ c + ∑ k : Fin 256, od k * w ⟨256 + k.val, by omega⟩ c)

end Cert.Spec
end
-- ==== Proof.Places.lean ====
module

public import proofs.«01_k».proof.Proof.Spec
public import Idealize.ShloMosaic.Lib.IdealHost

@[expose] public section
noncomputable section
namespace Cert.Places
open Idealize.ShloMosaic

/-- Two places of a list with the same coordinate are the same place. -/
theorem ext1 {M : ℕ} {i j : (⟨1, ![M]⟩ : Shape).Idx} (h0 : (i 0).val = (j 0).val) : i = j :=
  funext fun a => Fin.ext (match a with | ⟨0, _⟩ => h0)

/-- Two places of a matrix with the same coordinates are the same place. -/
theorem ext2 {M N : ℕ} {i j : (⟨2, ![M, N]⟩ : Shape).Idx} (h0 : (i 0).val = (j 0).val) (h1 : (i 1).val = (j 1).val) : i = j :=
  funext fun a => Fin.ext (match a with | ⟨0, _⟩ => h0 | ⟨1, _⟩ => h1)

/-- Two places of an array of three axes with the same coordinates are the same place. -/
theorem ext3 {M N K : ℕ} {i j : (⟨3, ![M, N, K]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

/-- Two places of an array of four axes with the same coordinates are the same place. -/
theorem ext4 {M N K L : ℕ} {i j : (⟨4, ![M, N, K, L]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

/-- Two places of an array of five axes with the same coordinates are the same place. -/
theorem ext5 {M N K L P : ℕ} {i j : (⟨5, ![M, N, K, L, P]⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

/-- The word of the float one reads as one. -/
theorem one_bits : Ideal.ofBits FTy.f32 1065353216#32 = 1 :=
  Ideal.ofBits_one_f32

end Cert.Places
end
-- ==== Proof.WinPay.lean ====
module

public import proofs.«01_k».proof.Proof.Gen.KernelIdeal.Skeleton
public import proofs.«01_k».proof.Proof.Places
public import Idealize.ShloMosaic.Lib.Pointwise
public import Idealize.ShloMosaic.Lib.Pipeline.ValueKit

/-! The values of one block of 128 query rows of the window branch, and what they are entry by entry. -/

@[expose] public section
set_option maxRecDepth 16384
noncomputable section
namespace Cert.KernelIdeal.Win
open Idealize.ShloMosaic Idealize.ShloMosaic.TcCoe Idealize.ShloMosaic.Tactic Cert.KernelIdeal Cert.KernelIdeal.Gen Cert.Places

/-- One weight of a row of scores: two to the score's distance from the largest. -/
def weight (s : Fin 640 → EReal) (x : Fin 640) : EReal :=
  Ideal.exp2 (s x - Finset.fold max ⊥ s Finset.univ)

/-- One entry of the gated attention: the weighted values, over the weights' sum, times the gate. -/
def attend (s w : Fin 640 → EReal) (g : EReal) : EReal :=
  (∑ x, w x * weight s x) * Ideal.div 1 (if 0 < ∑ x, weight s x then ∑ x, weight s x else 1) * g

/-- Which head a lane belongs to, tested for the first head. -/
theorem lane0 : ∀ l : Fin 128, IntOp.cmpi .eq (IntOp.shrsi .vector (BitVec.ofNat 32 l.val) 6#32) 0#32
    = if l.val < 64 then 1#1 else 0#1 := by decide +kernel

/-- Which head a lane belongs to, tested for the second head. -/
theorem lane1 : ∀ l : Fin 128, IntOp.cmpi .eq (IntOp.shrsi .vector (BitVec.ofNat 32 l.val) 6#32) 1#32
    = if l.val < 64 then 0#1 else 1#1 := by decide +kernel

/-- The weights as the kernel computes them. -/
theorem probs_apply (s : FVec Ideal S640x512 .f32) (key : Fin 640) (col : Fin 512) :
    k0_pay41 (F := Ideal) s (ix2 key col) = weight (fun x => s (ix2 x col)) key := by
  pointwise [k0_pay41]
  rfl

/-- The products with the values of the first head, ones in the other head's place. -/
theorem prod0 (p : FVec Ideal S640x512 .bf16) (v : Vec Ideal S1x640x128 .bf16) (l : Fin 128) (col : Fin 512) :
    k0_pay85 k0_pay2 p v (ix2 l col) = ∑ x, (if l.val < 64 then v (ix3 0 x l) else 1) * p (ix2 x col) := by
  pointwise [k0_pay85, k0_pay2]
  simp only [lane0]
  split <;> rfl

/-- The products with the values of the second head, ones in the other head's place. -/
theorem prod1 (p : FVec Ideal S640x512 .bf16) (v : Vec Ideal S1x640x128 .bf16) (l : Fin 128) (col : Fin 512) :
    k0_pay42 k0_pay2 p v (ix2 l col) = ∑ x, (if l.val < 64 then 1 else v (ix3 0 x l)) * p (ix2 x col) := by
  pointwise [k0_pay42, k0_pay2]
  simp only [lane1]
  split <;> rfl

/-- The reciprocal sums of weights, first head. -/
theorem inv0 (s : FVec Ideal S640x512 .f32) (v : Vec Ideal S1x640x128 .bf16) (col : Fin 512) :
    k0_pay86 k0_pay2 (k0_pay41 s) v (ix2 0 col)
      = Ideal.div 1 (if 0 < ∑ x, weight (fun x => s (ix2 x col)) x then ∑ x, weight (fun x => s (ix2 x col)) x else 1) := by
  pointwise [k0_pay86]
  simp only [prod0, probs_apply, show ¬((64 : Fin 128).val < 64) by decide, if_false, one_mul]

/-- The reciprocal sums of weights, second head. -/
theorem inv1 (s : FVec Ideal S640x512 .f32) (v : Vec Ideal S1x640x128 .bf16) (col : Fin 512) :
    k0_pay43 k0_pay2 (k0_pay41 s) v (ix2 0 col)
      = Ideal.div 1 (if 0 < ∑ x, weight (fun x => s (ix2 x col)) x then ∑ x, weight (fun x => s (ix2 x col)) x else 1) := by
  pointwise [k0_pay43]
  simp only [prod1, probs_apply, show ((0 : Fin 128).val < 64) by decide, if_true, one_mul]

/-- The weighted values of the first head. -/
theorem val0 (s : FVec Ideal S640x512 .f32) (v : Vec Ideal S1x640x128 .bf16) (d : Fin 64) (h : d.val < 128) (col : Fin 512) :
    k0_pay85 k0_pay2 (k0_pay41 s) v (ix2 ⟨d.val, h⟩ col) = ∑ x, v (ix3 0 x ⟨d.val, h⟩) * weight (fun x => s (ix2 x col)) x := by
  rw [prod0]
  simp only [d.isLt, if_true, probs_apply]

/-- The weighted values of the second head. -/
theorem val1 (s : FVec Ideal S640x512 .f32) (v : Vec Ideal S1x640x128 .bf16) (d : Fin 64) (h : 64 + d.val < 128) (col : Fin 512) :
    k0_pay42 k0_pay2 (k0_pay41 s) v (ix2 ⟨64 + d.val, h⟩ col) = ∑ x, v (ix3 0 x ⟨64 + d.val, h⟩) * weight (fun x => s (ix2 x col)) x := by
  rw [prod1]
  simp only [show ¬(64 + d.val < 64) by omega, if_false, probs_apply]

/-- The same lane of the same head. -/
theorem pick (H : Fin 8 → FVec Ideal S128x64 .f32) (i : Fin 128) (a b : Fin 64) (e e' : Fin 8) (he : e.val = e'.val) (ha : a.val = b.val) :
    H e (ix2 i a) = H e' (ix2 i b) := by
  obtain rfl := Fin.ext he
  obtain rfl := Fin.ext ha
  rfl

/-- Eight heads side by side: a lane is its head's. -/
theorem cat_apply (H : Fin 8 → FVec Ideal S128x64 .f32) (i : Fin 128) (n : Fin 512) :
    k0_pay4 (H 0) (H 1) (H 2) (H 3) (H 4) (H 5) (H 6) (H 7) (ix4 0 0 i n)
      = H ⟨n.val / 64, by omega⟩ (ix2 i ⟨n.val % 64, by omega⟩) := by
  have hn := n.isLt
  pointwise [k0_pay4]
  split_ifs
  all_goals exact pick H i _ _ _ _ (by simp; omega) (by simp; omega)

/-- The same entry of the same row of queries. -/
theorem pickq (q : Fin 4 → Vec Ideal S1x1x128x64 .f32) (d : Fin 64) (a b : Fin 128) (e e' : Fin 4) (he : e.val = e'.val) (ha : a.val = b.val) :
    q e (ix4 0 0 a d) = q e' (ix4 0 0 b d) := by
  obtain rfl := Fin.ext he
  obtain rfl := Fin.ext ha
  rfl

/-- The scores of one head's rows against the block's keys, with the band added. -/
theorem scores_apply (q : Fin 4 → Vec Ideal S1x1x128x64 .f32) (k : Vec Ideal S1x640x64 .bf16) (b : Vec Ideal S1x640x512 .f32)
    (key : Fin 640) (col : Fin 512) :
    k0_pay10 (q 0) (q 1) (q 2) (q 3) k b (ix2 key col)
      = ∑ e, k (ix3 0 key e) * (q ⟨col.val / 128, by omega⟩ (ix4 0 0 ⟨col.val % 128, by omega⟩ e) * ((8⁻¹ * (Real.log 2)⁻¹ : ℝ) : EReal))
        + b (ix3 0 key col) := by
  have hn := col.isLt
  pointwise [k0_pay10]
  refine congrArg (· + _) (Finset.sum_congr rfl fun e _ => congrArg _ (congrArg₂ (· * ·) ?_ rfl))
  split_ifs
  all_goals exact pickq q e _ _ _ _ (by simp; omega) (by simp; omega)

section Heads
variable (s : FVec Ideal S640x512 .f32) (v : Vec Ideal S1x640x128 .bf16) (g : Vec Ideal S1x1x128x1 .f32) (i : Fin 128) (d : Fin 64)

/-- An entry of the first head. -/
theorem head0 : k0_pay87 k0_pay2 (k0_pay41 s) v g (ix2 i d)
    = attend (fun x => s (ix2 x ⟨i.val, by omega⟩)) (fun x => v (ix3 0 x ⟨d.val, by omega⟩)) (g (ix4 0 0 i 0)) := by
  pointwise [k0_pay87]
  simp only [val0, inv0]
  rfl

/-- An entry of the second head. -/
theorem head1 : k0_pay88 k0_pay2 (k0_pay41 s) v g (ix2 i d)
    = attend (fun x => s (ix2 x ⟨128 + i.val, by omega⟩)) (fun x => v (ix3 0 x ⟨d.val, by omega⟩)) (g (ix4 0 0 i 0)) := by
  pointwise [k0_pay88]
  simp only [val0, inv0]
  rfl

/-- An entry of the third head. -/
theorem head2 : k0_pay91 (k0_pay89 k0_pay2 (k0_pay41 s) v) (k0_pay90 g) (ix2 i d)
    = attend (fun x => s (ix2 x ⟨256 + i.val, by omega⟩)) (fun x => v (ix3 0 x ⟨d.val, by omega⟩)) (g (ix4 0 0 i 0)) := by
  pointwise [k0_pay89, k0_pay90, k0_pay91]
  simp only [val0, inv0]
  rfl

/-- An entry of the fourth head. -/
theorem head3 : k0_pay92 (k0_pay85 k0_pay2 (k0_pay41 s) v) (k0_pay86 k0_pay2 (k0_pay41 s) v) g (ix2 i d)
    = attend (fun x => s (ix2 x ⟨384 + i.val, by omega⟩)) (fun x => v (ix3 0 x ⟨d.val, by omega⟩)) (g (ix4 0 0 i 0)) := by
  pointwise [k0_pay92]
  simp only [val0, inv0]
  rfl

/-- An entry of the fifth head. -/
theorem head4 : k0_pay44 k0_pay2 (k0_pay41 s) v g (ix2 i d)
    = attend (fun x => s (ix2 x ⟨i.val, by omega⟩)) (fun x => v (ix3 0 x ⟨64 + d.val, by omega⟩)) (g (ix4 0 0 i 0)) := by
  pointwise [k0_pay44]
  simp only [val1, inv1]
  rfl

/-- An entry of the sixth head. -/
theorem head5 : k0_pay45 k0_pay2 (k0_pay41 s) v g (ix2 i d)
    = attend (fun x => s (ix2 x ⟨128 + i.val, by omega⟩)) (fun x => v (ix3 0 x ⟨64 + d.val, by omega⟩)) (g (ix4 0 0 i 0)) := by
  pointwise [k0_pay45]
  simp only [val1, inv1]
  rfl

/-- An entry of the seventh head. -/
theorem head6 : k0_pay79 (k0_pay42 k0_pay2 (k0_pay41 s) v) (k0_pay43 k0_pay2 (k0_pay41 s) v) g (ix2 i d)
    = attend (fun x => s (ix2 x ⟨256 + i.val, by omega⟩)) (fun x => v (ix3 0 x ⟨64 + d.val, by omega⟩)) (g (ix4 0 0 i 0)) := by
  pointwise [k0_pay79]
  simp only [val1, inv1]
  rfl

/-- An entry of the eighth head. -/
theorem head7 : k0_pay155 (k0_pay42 k0_pay2 (k0_pay41 s) v) (k0_pay43 k0_pay2 (k0_pay41 s) v) g (ix2 i d)
    = attend (fun x => s (ix2 x ⟨384 + i.val, by omega⟩)) (fun x => v (ix3 0 x ⟨64 + d.val, by omega⟩)) (g (ix4 0 0 i 0)) := by
  pointwise [k0_pay155]
  simp only [val1, inv1]
  rfl

end Heads

/-- The eight heads of a block, from the two heads' scores. -/
def heads (S : Fin 2 → FVec Ideal S640x512 .f32) (v : Vec Ideal S1x640x128 .bf16) (g : Fin 8 → Vec Ideal S1x1x128x1 .f32) :
    Fin 8 → FVec Ideal S128x64 .f32 :=
  ![k0_pay87 k0_pay2 (k0_pay41 (S 0)) v (g 0), k0_pay88 k0_pay2 (k0_pay41 (S 0)) v (g 1),
    k0_pay91 (k0_pay89 k0_pay2 (k0_pay41 (S 0)) v) (k0_pay90 (g 2)),
    k0_pay92 (k0_pay85 k0_pay2 (k0_pay41 (S 0)) v) (k0_pay86 k0_pay2 (k0_pay41 (S 0)) v) (g 3),
    k0_pay44 k0_pay2 (k0_pay41 (S 1)) v (g 4), k0_pay45 k0_pay2 (k0_pay41 (S 1)) v (g 5),
    k0_pay79 (k0_pay42 k0_pay2 (k0_pay41 (S 1)) v) (k0_pay43 k0_pay2 (k0_pay41 (S 1)) v) (g 6),
    k0_pay155 (k0_pay42 k0_pay2 (k0_pay41 (S 1)) v) (k0_pay43 k0_pay2 (k0_pay41 (S 1)) v) (g 7)]

/-- The same attention, its scores and values named by equal heads, rows and lanes. -/
theorem entry (S : Fin 2 → FVec Ideal S640x512 .f32) (v : Vec Ideal S1x640x128 .bf16) (z : EReal) (h h' : Fin 2) (c c' : Fin 512) (l l' : Fin 128)
    (hh : h = h') (hc : c.val = c'.val) (hl : l.val = l'.val) :
    attend (fun x => S h (ix2 x c)) (fun x => v (ix3 0 x l)) z = attend (fun x => S h' (ix2 x c')) (fun x => v (ix3 0 x l')) z := by
  obtain rfl := hh
  obtain rfl := Fin.ext hc
  obtain rfl := Fin.ext hl
  rfl

/-- An entry of a head: its attention at its lane. -/
theorem heads_apply (S : Fin 2 → FVec Ideal S640x512 .f32) (v : Vec Ideal S1x640x128 .bf16) (g : Fin 8 → Vec Ideal S1x1x128x1 .f32)
    (e : Fin 8) (i : Fin 128) (d : Fin 64) :
    heads S v g e (ix2 i d)
      = attend (fun x => S ⟨e.val / 4, by omega⟩ (ix2 x ⟨128 * (e.val % 4) + i.val, by omega⟩))
          (fun x => v (ix3 0 x ⟨64 * (e.val / 4) + d.val, by omega⟩)) (g e (ix4 0 0 i 0)) :=
  match e with
  | 0 => (head0 (S 0) v (g 0) i d).trans (entry S v _ _ _ _ _ _ _ rfl (by simp) (by simp))
  | 1 => (head1 (S 0) v (g 1) i d).trans (entry S v _ _ _ _ _ _ _ rfl (by simp) (by simp))
  | 2 => (head2 (S 0) v (g 2) i d).trans (entry S v _ _ _ _ _ _ _ rfl (by simp) (by simp))
  | 3 => (head3 (S 0) v (g 3) i d).trans (entry S v _ _ _ _ _ _ _ rfl (by simp) (by simp))
  | 4 => (head4 (S 1) v (g 4) i d).trans (entry S v _ _ _ _ _ _ _ rfl (by simp) (by simp))
  | 5 => (head5 (S 1) v (g 5) i d).trans (entry S v _ _ _ _ _ _ _ rfl (by simp) (by simp))
  | 6 => (head6 (S 1) v (g 6) i d).trans (entry S v _ _ _ _ _ _ _ rfl (by simp) (by simp))
  | 7 => (head7 (S 1) v (g 7) i d).trans (entry S v _ _ _ _ _ _ _ rfl (by simp) (by simp))

end Cert.KernelIdeal.Win
end
-- ==== Proof.Cover.lean ====
module

public import Idealize.ShloMosaic.Lib.Pipeline.ValueKit
public import Idealize.ShloMosaic.Lib.Pipeline.ReadBack
public import Idealize.ShloMosaic.Lib.Pointwise

@[expose] public section
noncomputable section
namespace Cert.Cover
open Idealize.ShloMosaic

/-- An index lies in a rectangle of a two-axis shape when both its coordinates lie in the rectangle's ranges. -/
theorem mem_unit_two {M N : ℕ} (a b m n : ℕ) (inb) (y : (⟨2, ![M, N]⟩ : Shape).Idx) :
    y ∈ (Rect.unit (s := ⟨2, ![M, N]⟩) ![a, b] ![m, n] inb).set
      ↔ (a ≤ (y 0).val ∧ (y 0).val < a + m) ∧ (b ≤ (y 1).val ∧ (y 1).val < b + n) := by
  rw [Rect.mem_set_unit]
  exact ⟨fun h => ⟨h 0, h 1⟩, fun h k => match k with
    | ⟨0, _⟩ => h.1
    | ⟨1, _⟩ => h.2⟩

/-- A list of stores covers an index when its first store does or the rest do. -/
theorem covers_cons {s : Shape} {e : EltTy} {Val : EltTy → Type} (p : View.Piece Val s e) (L : List (View.Piece Val s e))
    (y : s.Idx) : (∃ q ∈ p :: L, y ∈ q.1.set) ↔ (y ∈ p.1.set ∨ ∃ q ∈ L, y ∈ q.1.set) := by
  simp

/-- An index some store covers: the first one, when the index lies in its ranges, or a later one. -/
theorem covers_unit {M N : ℕ} {e : EltTy} {Val : EltTy → Type} (a b m n : ℕ) (inb)
    (w : (Rect.unit (s := ⟨2, ![M, N]⟩) ![a, b] ![m, n] inb).shape.Idx → Val e)
    (L : List (View.Piece Val (⟨2, ![M, N]⟩ : Shape) e)) (y : (⟨2, ![M, N]⟩ : Shape).Idx)
    (h : ¬((a ≤ (y 0).val ∧ (y 0).val < a + m) ∧ (b ≤ (y 1).val ∧ (y 1).val < b + n)) → ∃ q ∈ L, y ∈ q.1.set) :
    ∃ q ∈ (⟨Rect.unit (s := ⟨2, ![M, N]⟩) ![a, b] ![m, n] inb, w⟩ : View.Piece Val (⟨2, ![M, N]⟩ : Shape) e) :: L, y ∈ q.1.set :=
  (covers_cons _ L y).mpr ((Classical.em _).imp_right fun hn => h fun hy => hn ((mem_unit_two a b m n inb y).mpr hy))

/-- Reading the stores at an index outside the last store's ranges. -/
theorem canon_skip {M N : ℕ} {e : EltTy} {Val : EltTy → Type} [∀ e, Nonempty (Val e)] (a b m n : ℕ) (inb)
    (w : (Rect.unit (s := ⟨2, ![M, N]⟩) ![a, b] ![m, n] inb).shape.Idx → Val e)
    (L : List (View.Piece Val (⟨2, ![M, N]⟩ : Shape) e)) (y : (⟨2, ![M, N]⟩ : Shape).Idx)
    (h : ¬((a ≤ (y 0).val ∧ (y 0).val < a + m) ∧ (b ≤ (y 1).val ∧ (y 1).val < b + n))) :
    View.canon ((⟨Rect.unit (s := ⟨2, ![M, N]⟩) ![a, b] ![m, n] inb, w⟩ : View.Piece Val (⟨2, ![M, N]⟩ : Shape) e) :: L) y
      = View.canon L y :=
  View.canon_cons_of_not_mem _ _ fun hy => h ((mem_unit_two a b m n inb y).mp hy)

/-- Reading the stores at an index of the last store's rectangle, given by its position there. -/
theorem canon_at {s : Shape} {e : EltTy} {Val : EltTy → Type} [∀ e, Nonempty (Val e)] (r : Rect s) (w : r.shape.Idx → Val e)
    (L : List (View.Piece Val s e)) (G : s.Idx → Val e) (hw : ∀ x, w x = G (r.emb x)) (y : s.Idx) (hy : y ∈ r.set) :
    View.canon (⟨r, w⟩ :: L) y = G y := by
  obtain ⟨x, rfl⟩ := r.exists_idx_of_mem hy
  exact (View.canon_cons_emb r w L x).trans (hw x)

end Cert.Cover
end
-- ==== Proof.WinBlock.lean ====
module

public import proofs.«01_k».proof.Proof.WinPay
public import proofs.«01_k».proof.Proof.Cover
public import Idealize.ShloMosaic.Lib.WordCmp

/-! One grid point of the window branch: the window of keys that a block of 128 rows sees, its band, and the block's
values from what the loads read. -/

@[expose] public section
set_option maxRecDepth 16384
noncomputable section
namespace Cert.KernelIdeal.Win
open Idealize.ShloMosaic Idealize.ShloMosaic.TcCoe Idealize.ShloMosaic.Tactic Cert.KernelIdeal Cert.KernelIdeal.Gen Cert.Places Idealize.ShloMosaic.WordCmp

/-- The band over a block's window: key `x` of it is seen by query row `col mod 128` when it is at most 511 tokens
back, not ahead, and not before the window's key `lo`. -/
def band (lo x col : ℕ) : EReal :=
  if col % 128 + 1 ≤ x ∧ x ≤ col % 128 + 512 ∧ lo ≤ x then 0 else ⊥

/-- A query's row in its block, as the kernel computes it from the column. -/
theorem row_bits : ∀ c : Fin 512, IntOp.andi (BitVec.ofNat 32 c.val) 127#32 = BitVec.ofNat 32 (c.val % 128) := by
  decide +kernel

/-- The distance from a key to a query, as the kernel computes it. -/
theorem dist_bits (q x : ℕ) (hq : q < 128) (hx : x < 640) :
    (IntOp.subi (IntOp.addi (BitVec.ofNat 32 q) 512#32) (BitVec.ofNat 32 x)).toInt = (q : ℤ) + 512 - x := by
  show ((BitVec.ofNat 32 q + 512#32) - BitVec.ofNat 32 x).toInt = _
  rw [BitVec.toInt_sub, BitVec.toInt_add, toInt_ofNat_of_lt (by omega), toInt_ofNat_of_lt (by omega), toInt_ofNat_of_lt (by omega)]
  simp only [Int.bmod_def]
  norm_num
  omega

/-- A key's number, as a signed word. -/
theorem key_bits (x : ℕ) (hx : x < 640) : (BitVec.ofNat 32 x).toInt = (x : ℤ) := toInt_ofNat_of_lt (by omega)

/-- Choosing by a truth value's bit. -/
theorem select_bit (p : Prop) [Decidable p] (a b : EReal) : Scalar.select (BitVec.ofBool (decide p)) a b = if p then a else b := by
  by_cases h : p <;> simp [h, Scalar.select]

section Bands
variable (x : Fin 640) (col : Fin 512)

/-- The band of a tile with all its keys. -/
theorem band_all : k0_pay5 (F := Ideal) (k0_pay1 (iota .tc S640x512 32 [0] iota_S640x512_d0_w32) k0_pay160) (ix3 0 x col)
    = band 0 x.val col.val := by
  have hx := x.isLt
  pointwise [k0_pay5, k0_pay1, k0_pay160]
  simp only [row_bits, cmpi_sge_eq, cmpi_sle_eq, dist_bits (col.val % 128) x.val (by omega) hx, andi_ofBool, ← Bool.decide_and]
  rw [select_bit]
  unfold band
  refine if_congr ?_ rfl rfl
  have h0 : (0#32).toInt = 0 := rfl
  have h5 : (511#32).toInt = 511 := rfl
  simp only [h0, h5, Bool.decide_eq_true, Bool.and_eq_true, decide_eq_true_eq]
  omega

/-- The band of the first tile, whose keys before the window's key `lo` are not there. -/
theorem band_from (lo : ℕ) (w : BitVec 32) (hw : w.toInt = lo) :
    Scalar.select (IntOp.andi (k0_pay1 (iota .tc S640x512 32 [0] iota_S640x512_d0_w32) k0_pay160 (ix2 x col))
      (IntOp.cmpi .sge (BitVec.ofNat 32 x.val) w)) (0 : EReal) ⊥ = band lo x.val col.val := by
  have hx := x.isLt
  pointwise [k0_pay1, k0_pay160]
  simp only [row_bits, cmpi_sge_eq, cmpi_sle_eq, dist_bits (col.val % 128) x.val (by omega) hx, key_bits x.val hx, hw, andi_ofBool, ← Bool.decide_and]
  rw [select_bit]
  unfold band
  refine if_congr ?_ rfl rfl
  have h0 : (0#32).toInt = 0 := rfl
  have h5 : (511#32).toInt = 511 := rfl
  simp only [h0, h5, Bool.decide_eq_true, Bool.and_eq_true, decide_eq_true_eq]
  omega

end Bands

/-- The keys of a grid point: the 512 rows before the tile, then the tile's own. -/
def cat (xp xc : Vec Ideal S1x1x512x128 .bf16) (y : Fin 1024) (l : Fin 128) : EReal :=
  if h : y.val < 512 then xp (ix4 0 0 ⟨y.val, h⟩ l) else xc (ix4 0 0 ⟨y.val - 512, by omega⟩ l)

/-- A key of the rows before the tile. -/
theorem cat_before (xp xc : Vec Ideal S1x1x512x128 .bf16) (y : Fin 1024) (l : Fin 128) (h : y.val < 512) :
    cat xp xc y l = xp (ix4 0 0 ⟨y.val, h⟩ l) := dif_pos h

/-- A key of the tile. -/
theorem cat_own (xp xc : Vec Ideal S1x1x512x128 .bf16) (y : Fin 1024) (l : Fin 128) (h : ¬y.val < 512) :
    cat xp xc y l = xc (ix4 0 0 ⟨y.val - 512, by omega⟩ l) := dif_neg h

/-- What a grid point leaves in its output block; `lo j` is the first key that is there in the window of sub-block `j`. -/
def winV (lo : ℕ → ℕ) (x0 : Vec Ideal S8x1x512x64 .f32) (x1 x2 x3 x4 : Vec Ideal S1x1x512x128 .bf16) (x5 : Vec Ideal S2x1x512x128 .f32) :
    Vec Ideal S1x1x512x512 .bf16 := fun y =>
  have h2 : (y 2).val < 512 := (y 2).isLt
  have h3 : (y 3).val < 512 := (y 3).isLt
  attend
    (fun x => (∑ d : Fin 64, cat x1 x2 ⟨128 * ((y 2).val / 128) + x.val, by omega⟩ ⟨64 * ((y 3).val / 256) + d.val, by omega⟩
        * (x0 (ix4 ⟨(y 3).val / 64, by omega⟩ 0 (y 2) d) * ((8⁻¹ * (Real.log 2)⁻¹ : ℝ) : EReal)))
      + band (lo ((y 2).val / 128)) x.val ((y 2).val % 128))
    (fun x => cat x3 x4 ⟨128 * ((y 2).val / 128) + x.val, by omega⟩ ⟨64 * ((y 3).val / 256) + (y 3).val % 64, by omega⟩)
    (x5 (ix4 ⟨(y 3).val / 256, by omega⟩ 0 (y 2) ⟨3 * ((y 3).val / 64 % 4) + 2, by omega⟩))

/-- Reading the last store at a place of its rectangle. -/
theorem canon_emb {s : Shape} {e : EltTy} {Val : EltTy → Type} [∀ e, Nonempty (Val e)] (r : Rect s) (w : r.shape.Idx → Val e)
    (L : List (View.Piece Val s e)) (x : r.shape.Idx) {y : s.Idx} (h : r.emb x = y) : View.canon (⟨r, w⟩ :: L) y = w x := by
  subst h
  exact View.canon_cons_emb r w L x

/-- The keys read back from the two stores that lay them side by side. -/
theorem cat_read (xp xc : Vec Ideal S1x1x512x128 .bf16) (wp wc : Vec Ideal S1x512x128 .bf16)
    (hp : ∀ (a : Fin 512) (l : Fin 128), wp (ix3 0 a l) = xp (ix4 0 0 a l)) (hc : ∀ (a : Fin 512) (l : Fin 128), wc (ix3 0 a l) = xc (ix4 0 0 a l))
    {sig : RefSig} {κ : Kind} {sp : Space} (v : View sig κ sp S1x1024x128 .bf16) (R o W : ℕ) (hW : o + W ≤ 128) (hR : R + 640 ≤ 1024) (inb1) (inb2) (inb3) (x : Fin 640) (d : Fin W) :
    v.readCov [⟨Rect.unit (s := S1x1024x128) ![0, 512, 0] ![1, 512, 128] inb1, wc⟩, ⟨Rect.unit (s := S1x1024x128) ![0, 0, 0] ![1, 512, 128] inb2, wp⟩]
        (Rect.unit (s := S1x1024x128) ![0, R, o] ![1, 640, W] inb3).toLoadRect (ix3 0 x d)
      = cat xp xc ⟨R + x.val, by omega⟩ ⟨o + d.val, by omega⟩ := by
  rw [View.readCov_eq_canon']
  show View.canon _ ((Rect.unit (s := S1x1024x128) ![0, R, o] ![1, 640, W] inb3).toLoadRect.idx (ix3 0 x d)) = _
  have e : (Rect.unit (s := S1x1024x128) ![0, R, o] ![1, 640, W] inb3).toLoadRect.idx (ix3 0 x d) = ix3 0 ⟨R + x.val, by omega⟩ ⟨o + d.val, by omega⟩ :=
    ext3 (show 0 + 1 * 0 = 0 by omega) (show R + 1 * x.val = R + x.val by omega) (show o + 1 * d.val = o + d.val by omega)
  rw [e]
  by_cases h : R + x.val < 512
  · have e2 : (Rect.unit (s := S1x1024x128) ![0, 0, 0] ![1, 512, 128] inb2).emb (ix3 (0 : Fin 1) (⟨R + x.val, h⟩ : Fin 512) (⟨o + d.val, by omega⟩ : Fin 128))
        = ix3 0 ⟨R + x.val, by omega⟩ ⟨o + d.val, by omega⟩ :=
      ext3 (show 0 + 1 * 0 = 0 by omega) (show 0 + 1 * (R + x.val) = R + x.val by omega) (show 0 + 1 * (o + d.val) = o + d.val by omega)
    have e4 := canon_emb (Val := Elt Ideal) (e := .bf16) (Rect.unit (s := S1x1024x128) ![0, 0, 0] ![1, 512, 128] inb2) wp [] _ e2
    have e3 := hp ⟨R + x.val, h⟩ ⟨o + d.val, by omega⟩
    refine (View.canon_cons_of_not_mem _ _ fun hy => ?_).trans (e4.trans (e3.trans (cat_before xp xc ⟨R + x.val, by omega⟩ _ h).symm))
    rw [Rect.mem_set_unit] at hy
    have h1 : 512 ≤ R + x.val := (hy 1).1
    omega
  · have e2 : (Rect.unit (s := S1x1024x128) ![0, 512, 0] ![1, 512, 128] inb1).emb (ix3 (0 : Fin 1) (⟨R + x.val - 512, by omega⟩ : Fin 512) (⟨o + d.val, by omega⟩ : Fin 128))
        = ix3 0 ⟨R + x.val, by omega⟩ ⟨o + d.val, by omega⟩ :=
      ext3 (show 0 + 1 * 0 = 0 by omega) (show 512 + 1 * (R + x.val - 512) = R + x.val by omega) (show 0 + 1 * (o + d.val) = o + d.val by omega)
    have e4 := canon_emb (Val := Elt Ideal) (e := .bf16) (Rect.unit (s := S1x1024x128) ![0, 512, 0] ![1, 512, 128] inb1) wc [⟨Rect.unit (s := S1x1024x128) ![0, 0, 0] ![1, 512, 128] inb2, wp⟩] _ e2
    have e3 := hc ⟨R + x.val - 512, by omega⟩ ⟨o + d.val, by omega⟩
    exact e4.trans (e3.trans (cat_own xp xc ⟨R + x.val, by omega⟩ _ h).symm)

/-- A store of another band is not met when a band is read. -/
theorem band_skip {sig : RefSig} {κ : Kind} {sp : Space} (v : View sig κ sp S5x640x512 .f32) (a b : ℕ) (hab : a ≠ b) (inb1) (inb2) (w)
    (L : List (View.Piece (Elt Ideal) S5x640x512 .f32)) :
    v.readCov (⟨Rect.unit (s := S5x640x512) ![a, 0, 0] ![1, 640, 512] inb1, w⟩ :: L) (Rect.unit (s := S5x640x512) ![b, 0, 0] ![1, 640, 512] inb2).toLoadRect
      = v.readCov L (Rect.unit (s := S5x640x512) ![b, 0, 0] ![1, 640, 512] inb2).toLoadRect := by
  funext y
  rw [View.readCov_eq_canon', View.readCov_eq_canon']
  refine View.canon_cons_of_not_mem _ _ fun hy => hab ?_
  rw [Rect.mem_set_unit] at hy
  have h := hy 0
  have h0 : (y 0).val < 1 := (y 0).isLt
  have h1 : a ≤ b + 1 * (y 0).val ∧ b + 1 * (y 0).val < a + 1 := h
  omega

/-- A scoring's entry, from what its loads read. -/
theorem scores_at (lo : ℕ) (x0 : Vec Ideal S8x1x512x64 .f32) (x1 x2 : Vec Ideal S1x1x512x128 .bf16) (R : ℕ) (hR : R + 128 ≤ 512) (h : Fin 2)
    (q : Fin 4 → Vec Ideal S1x1x128x64 .f32) (k : Vec Ideal S1x640x64 .bf16) (b : Vec Ideal S1x640x512 .f32)
    (hq : ∀ (e : Fin 4) (i : Fin 128) (d : Fin 64), q e (ix4 0 0 i d) = x0 (ix4 ⟨4 * h.val + e.val, by omega⟩ 0 ⟨R + i.val, by omega⟩ d))
    (hk : ∀ (x : Fin 640) (d : Fin 64), k (ix3 0 x d) = cat x1 x2 ⟨R + x.val, by omega⟩ ⟨64 * h.val + d.val, by omega⟩)
    (hb : ∀ (x : Fin 640) (col : Fin 512), b (ix3 0 x col) = band lo x.val col.val) (x : Fin 640) (c : Fin 512) :
    k0_pay10 (F := Ideal) (q 0) (q 1) (q 2) (q 3) k b (ix2 x c)
      = (∑ d : Fin 64, cat x1 x2 ⟨R + x.val, by omega⟩ ⟨64 * h.val + d.val, by omega⟩
          * (x0 (ix4 ⟨4 * h.val + c.val / 128, by omega⟩ 0 ⟨R + c.val % 128, by omega⟩ d) * ((8⁻¹ * (Real.log 2)⁻¹ : ℝ) : EReal)))
        + band lo x.val c.val := by
  rw [scores_apply q k b x c, hb]
  exact congrArg (· + _) (Finset.sum_congr rfl fun d _ => by rw [hk, hq])

/-- A sub-block's entry from its scorings. -/
theorem entry_at (lo : ℕ → ℕ) (x0 : Vec Ideal S8x1x512x64 .f32) (x1 x2 x3 x4 : Vec Ideal S1x1x512x128 .bf16) (x5 : Vec Ideal S2x1x512x128 .f32)
    (j : Fin 4) (i : Fin 128) (n : Fin 512) (e : Fin 8) (he : e.val = n.val / 64) (s : Fin 640 → EReal) (w : Fin 640 → EReal) (g : EReal)
    (hs : ∀ x, s x = (∑ d : Fin 64, cat x1 x2 ⟨128 * j.val + x.val, by omega⟩ ⟨64 * (e.val / 4) + d.val, by omega⟩
          * (x0 (ix4 e 0 ⟨128 * j.val + i.val, by omega⟩ d) * ((8⁻¹ * (Real.log 2)⁻¹ : ℝ) : EReal)))
        + band (lo j.val) x.val i.val)
    (hw : ∀ x, w x = cat x3 x4 ⟨128 * j.val + x.val, by omega⟩ ⟨64 * (e.val / 4) + n.val % 64, by omega⟩)
    (hg : g = x5 (ix4 ⟨e.val / 4, by omega⟩ 0 ⟨128 * j.val + i.val, by omega⟩ ⟨3 * (e.val % 4) + 2, by omega⟩)) :
    attend s w g = winV lo x0 x1 x2 x3 x4 x5 (ix4 0 0 ⟨128 * j.val + i.val, by omega⟩ n) := by
  have hi := i.isLt
  have hn := n.isLt
  have e1 : (128 * j.val + i.val) / 128 = j.val := by omega
  have e2 : (128 * j.val + i.val) % 128 = i.val := by omega
  have e3 : n.val / 256 = e.val / 4 := by omega
  have hs' := funext hs
  have hw' := funext hw
  rw [hs', hw', hg]
  unfold winV
  dsimp only [ix4_0, ix4_1, ix4_2, ix4_3]
  simp only [e1, e2, e3, ← he, Fin.eta]

/-- A sub-block's values, from what its loads read. -/
theorem block_apply (lo : ℕ → ℕ) (x0 : Vec Ideal S8x1x512x64 .f32) (x1 x2 x3 x4 : Vec Ideal S1x1x512x128 .bf16) (x5 : Vec Ideal S2x1x512x128 .f32)
    (j : Fin 4) (R : ℕ) (hR : R = 128 * j.val) (q : Fin 8 → Vec Ideal S1x1x128x64 .f32) (k : Fin 2 → Vec Ideal S1x640x64 .bf16)
    (b : Vec Ideal S1x640x512 .f32) (v : Vec Ideal S1x640x128 .bf16) (g : Fin 8 → Vec Ideal S1x1x128x1 .f32)
    (hq : ∀ (e : Fin 8) (i : Fin 128) (d : Fin 64), q e (ix4 0 0 i d) = x0 (ix4 e 0 ⟨R + i.val, by omega⟩ d))
    (hk : ∀ (h : Fin 2) (x : Fin 640) (d : Fin 64), k h (ix3 0 x d) = cat x1 x2 ⟨R + x.val, by omega⟩ ⟨64 * h.val + d.val, by omega⟩)
    (hb : ∀ (x : Fin 640) (col : Fin 512), b (ix3 0 x col) = band (lo j.val) x.val col.val)
    (hv : ∀ (x : Fin 640) (l : Fin 128), v (ix3 0 x l) = cat x3 x4 ⟨R + x.val, by omega⟩ l)
    (hg : ∀ (e : Fin 8) (i : Fin 128), g e (ix4 0 0 i 0) = x5 (ix4 ⟨e.val / 4, by omega⟩ 0 ⟨R + i.val, by omega⟩ ⟨3 * (e.val % 4) + 2, by omega⟩))
    (S : Fin 2 → FVec Ideal S640x512 .f32) (hS0 : S 0 = k0_pay10 (q 0) (q 1) (q 2) (q 3) (k 0) b) (hS1 : S 1 = k0_pay10 (q 4) (q 5) (q 6) (q 7) (k 1) b)
    (inb) (y : S1x1x128x512.Idx) :
    k0_pay4 (heads S v g 0) (heads S v g 1) (heads S v g 2) (heads S v g 3) (heads S v g 4) (heads S v g 5) (heads S v g 6) (heads S v g 7) y
      = winV lo x0 x1 x2 x3 x4 x5 ((Rect.unit (s := S1x1x512x512) ![0, 0, R, 0] ![1, 1, 128, 512] inb).emb y) := by
  subst hR
  obtain ⟨i, n, rfl⟩ : ∃ (i : Fin 128) (n : Fin 512), y = ix4 0 0 i n :=
    ⟨y 2, y 3, ext4 (Nat.lt_one_iff.mp (y 0).isLt) (Nat.lt_one_iff.mp (y 1).isLt) rfl rfl⟩
  have e : (Rect.unit (s := S1x1x512x512) ![0, 0, 128 * j.val, 0] ![1, 1, 128, 512] inb).emb (ix4 0 0 i n)
      = ix4 0 0 ⟨128 * j.val + i.val, by omega⟩ n :=
    ext4 (show 0 + 1 * 0 = 0 by omega) (show 0 + 1 * 0 = 0 by omega) (show 128 * j.val + 1 * i.val = _ by simp) (show 0 + 1 * n.val = n.val by omega)
  have hi := i.isLt
  have hn := n.isLt
  rw [e]
  refine (cat_apply (heads S v g) i n).trans ((heads_apply S v g _ _ _).trans ?_)
  refine entry_at lo x0 x1 x2 x3 x4 x5 j i n ⟨n.val / 64, by omega⟩ rfl _ _ _ (fun x => ?_) (fun x => hv x _) (hg _ i)
  have hS : ∀ h : Fin 2, ∀ c : Fin 512, S h (ix2 x c) = (∑ d : Fin 64, cat x1 x2 ⟨128 * j.val + x.val, by omega⟩ ⟨64 * h.val + d.val, by omega⟩
          * (x0 (ix4 ⟨4 * h.val + c.val / 128, by omega⟩ 0 ⟨128 * j.val + c.val % 128, by omega⟩ d) * ((8⁻¹ * (Real.log 2)⁻¹ : ℝ) : EReal)))
        + band (lo j.val) x.val c.val := fun h c => by
    match h with
    | 0 => rw [hS0]; exact scores_at (lo j.val) x0 x1 x2 (128 * j.val) (by omega) 0 ![q 0, q 1, q 2, q 3] (k 0) b
            (fun e i d => match e with | 0 => hq 0 i d | 1 => hq 1 i d | 2 => hq 2 i d | 3 => hq 3 i d) (hk 0) hb x c
    | 1 => rw [hS1]; exact scores_at (lo j.val) x0 x1 x2 (128 * j.val) (by omega) 1 ![q 4, q 5, q 6, q 7] (k 1) b
            (fun e i d => match e with | 0 => hq 4 i d | 1 => hq 5 i d | 2 => hq 6 i d | 3 => hq 7 i d) (hk 1) hb x c
  have e1 : 4 * (n.val / 64 / 4) + (128 * (n.val / 64 % 4) + i.val) / 128 = n.val / 64 := by omega
  have e2 : (128 * (n.val / 64 % 4) + i.val) % 128 = i.val := by omega
  have e3 : band (lo j.val) x.val (128 * (n.val / 64 % 4) + i.val) = band (lo j.val) x.val i.val := by
    unfold band
    rw [e2, Nat.mod_eq_of_lt hi]
  refine (hS ⟨n.val / 64 / 4, by omega⟩ ⟨128 * (n.val / 64 % 4) + i.val, by omega⟩).trans ?_
  simp only [e1, e2, e3]

end Cert.KernelIdeal.Win
end
-- ==== Proof.Win.lean ====
module

public import proofs.«01_k».proof.Proof.WinBlock
public import proofs.«01_k».proof.Proof.Gen.KernelIdeal.Value

/-! What a grid point of the window branch leaves in its output block: the window's attention of its rows. -/

@[expose] public section
set_option maxRecDepth 16384
noncomputable section
namespace Cert.KernelIdeal.Win
open Idealize.ShloMosaic Idealize.ShloMosaic.TcCoe Idealize.ShloMosaic.Tactic Cert.KernelIdeal Cert.KernelIdeal.Gen Cert.Places

/-- Eight heads side by side, narrowed and laid as a block. -/
theorem cat_fold (v0 v1 v2 v3 v4 v5 v6 v7 : FVec Ideal S128x64 .f32) (h1) (h2) (h3) :
    shapeCast S1x1x128x512 (truncf .bf16 (concatenate S128x512 1 [⟨S128x64, v0⟩, ⟨S128x64, v1⟩, ⟨S128x64, v2⟩, ⟨S128x64, v3⟩, ⟨S128x64, v4⟩,
      ⟨S128x64, v5⟩, ⟨S128x64, v6⟩, ⟨S128x64, v7⟩] h1) h2) h3 = k0_pay4 v0 v1 v2 v3 v4 v5 v6 v7 := rfl

/-- Four heads' queries, one below the other. -/
def qcat (v0 v1 v2 v3 : FVec Ideal S1x1x128x64 .f32) : FVec Ideal S512x64 .f32 :=
  concatenate S512x64 0 [⟨S128x64, shapeCast S128x64 v0 shapeCasts_S1x1x128x64_S128x64⟩, ⟨S128x64, shapeCast S128x64 v1 shapeCasts_S1x1x128x64_S128x64⟩,
    ⟨S128x64, shapeCast S128x64 v2 shapeCasts_S1x1x128x64_S128x64⟩, ⟨S128x64, shapeCast S128x64 v3 shapeCasts_S1x1x128x64_S128x64⟩] concatenates_S128x64_S128x64_S128x64_S128x64_S512x64_d0

/-- The queries as the kernel joins them. -/
theorem qcat_fold (v0 v1 v2 v3 : FVec Ideal S1x1x128x64 .f32) (h0) (h1) (h2) (h3) (h) :
    concatenate S512x64 0 [⟨S128x64, shapeCast S128x64 v0 h0⟩, ⟨S128x64, shapeCast S128x64 v1 h1⟩, ⟨S128x64, shapeCast S128x64 v2 h2⟩, ⟨S128x64, shapeCast S128x64 v3 h3⟩] h
      = qcat v0 v1 v2 v3 := rfl

/-- A load of the whole buffer just stored reads what was stored. -/
theorem read_whole {sig : RefSig} {κ : Kind} {sp : Space} (v : View sig κ sp S640x512 .f32) (inb1) (inb2) (w : FVec Ideal S640x512 .f32)
    (L : List (View.Piece (Elt Ideal) S640x512 .f32)) :
    v.readCov (⟨Rect.unit (s := S640x512) ![0, 0] ![640, 512] inb1, w⟩ :: L) (Rect.unit (s := S640x512) ![0, 0] ![640, 512] inb2).toLoadRect = w :=
  View.readCov_cons_toLoadRect (Val := Elt Ideal) v (Rect.unit (s := S640x512) ![0, 0] ![640, 512] inb1) w L

/-- A load of a whole block of keys or values. -/
theorem ld_whole (x : Vec Ideal S1x1x512x128 .bf16) (inb) : View.ld x (Rect.unit (s := S1x1x512x128) ![0, 0, 0, 0] ![1, 1, 512, 128] inb) = x :=
  funext fun y => congrArg x (ext4 (show 0 + 1 * (y 0).val = (y 0).val by omega) (show 0 + 1 * (y 1).val = (y 1).val by omega)
    (show 0 + 1 * (y 2).val = (y 2).val by omega) (show 0 + 1 * (y 3).val = (y 3).val by omega))

/-- Four stores of 128 rows each, one below the other, hold together what each of them holds. -/
theorem four_blocks (inb0) (inb1) (inb2) (inb3) (w0) (w1) (w2) (w3) (G : Vec Ideal S1x1x512x512 .bf16)
    (h0 : ∀ x, w0 x = G ((Rect.unit (s := S1x1x512x512) ![0, 0, 0, 0] ![1, 1, 128, 512] inb0).emb x))
    (h1 : ∀ x, w1 x = G ((Rect.unit (s := S1x1x512x512) ![0, 0, 128, 0] ![1, 1, 128, 512] inb1).emb x))
    (h2 : ∀ x, w2 x = G ((Rect.unit (s := S1x1x512x512) ![0, 0, 256, 0] ![1, 1, 128, 512] inb2).emb x))
    (h3 : ∀ x, w3 x = G ((Rect.unit (s := S1x1x512x512) ![0, 0, 384, 0] ![1, 1, 128, 512] inb3).emb x)) (y : S1x1x512x512.Idx) :
    View.canon (Val := Elt Ideal) (e := .bf16) [⟨Rect.unit (s := S1x1x512x512) ![0, 0, 384, 0] ![1, 1, 128, 512] inb3, w3⟩,
      ⟨Rect.unit (s := S1x1x512x512) ![0, 0, 256, 0] ![1, 1, 128, 512] inb2, w2⟩, ⟨Rect.unit (s := S1x1x512x512) ![0, 0, 128, 0] ![1, 1, 128, 512] inb1, w1⟩,
      ⟨Rect.unit (s := S1x1x512x512) ![0, 0, 0, 0] ![1, 1, 128, 512] inb0, w0⟩] y = G y := by
  have m : ∀ (R : ℕ) (inb) , R ≤ (y 2).val → (y 2).val < R + 128 → y ∈ (Rect.unit (s := S1x1x512x512) ![0, 0, R, 0] ![1, 1, 128, 512] inb).set :=
    fun R inb ha hb => by
      have g0 : (y 0).val < 1 := (y 0).isLt
      have g1 : (y 1).val < 1 := (y 1).isLt
      have g3 : (y 3).val < 512 := (y 3).isLt
      rw [Rect.mem_set_unit]
      exact fun k => match k with
        | ⟨0, _⟩ => ⟨Nat.zero_le _, by show (y 0).val < 0 + 1; omega⟩
        | ⟨1, _⟩ => ⟨Nat.zero_le _, by show (y 1).val < 0 + 1; omega⟩
        | ⟨2, _⟩ => ⟨ha, hb⟩
        | ⟨3, _⟩ => ⟨Nat.zero_le _, by show (y 3).val < 0 + 512; omega⟩
  refine View.canon_apply_of_pieces (Val := Elt Ideal) (e := .bf16) G _ (fun p hp => ?_) y ?_
  · simp only [List.mem_cons, List.not_mem_nil, or_false] at hp
    rcases hp with rfl | rfl | rfl | rfl
    exacts [h3, h2, h1, h0]
  · have g2 : (y 2).val < 512 := (y 2).isLt
    by_cases a : 384 ≤ (y 2).val
    · exact ⟨_, List.mem_cons_self .., m 384 inb3 a (by omega)⟩
    by_cases b : 256 ≤ (y 2).val
    · exact ⟨_, List.mem_cons_of_mem _ (List.mem_cons_self ..), m 256 inb2 b (by omega)⟩
    by_cases d : 128 ≤ (y 2).val
    · exact ⟨_, List.mem_cons_of_mem _ (List.mem_cons_of_mem _ (List.mem_cons_self ..)), m 128 inb1 d (by omega)⟩
    · exact ⟨_, List.mem_cons_of_mem _ (List.mem_cons_of_mem _ (List.mem_cons_of_mem _ (List.mem_cons_self ..))), m 0 inb0 (by omega) (by omega)⟩

/-- The queries of one head of a sub-block, as they are loaded. -/
@[irreducible] def qs (x0 : Vec Ideal S8x1x512x64 .f32) (e R : ℕ) (inb : ∀ a, ![e, 0, R, 0] a + ![1, 1, 128, 64] a ≤ S8x1x512x64.size a) : Vec Ideal S1x1x128x64 .f32 :=
  View.ld x0 (Rect.unit (s := S8x1x512x64) ![e, 0, R, 0] ![1, 1, 128, 64] inb)

/-- A load of a head's queries. -/
theorem qs_eq (x0 : Vec Ideal S8x1x512x64 .f32) (e R : ℕ) (inb) :
    View.ld x0 (Rect.unit (s := S8x1x512x64) ![e, 0, R, 0] ![1, 1, 128, 64] inb) = qs x0 e R inb := by
  unfold qs
  rfl

/-- An entry of a head's queries. -/
theorem qs_apply (x0 : Vec Ideal S8x1x512x64 .f32) (e : Fin 8) (R : ℕ) (hR : R + 128 ≤ 512) (inb) (i : Fin 128) (d : Fin 64) :
    qs x0 e.val R inb (ix4 0 0 i d) = x0 (ix4 e 0 ⟨R + i.val, by omega⟩ d) := by
  unfold qs
  exact congrArg x0 (ext4 (show e.val + 1 * 0 = e.val by omega) (show 0 + 1 * 0 = 0 by omega) (show R + 1 * i.val = R + i.val by omega)
    (show 0 + 1 * d.val = d.val by omega))

/-- The gates of one head of a sub-block, as they are loaded. -/
@[irreducible] def gs (x5 : Vec Ideal S2x1x512x128 .f32) (h l R : ℕ) (inb : ∀ a, ![h, 0, R, l] a + ![1, 1, 128, 1] a ≤ S2x1x512x128.size a) : Vec Ideal S1x1x128x1 .f32 :=
  View.ld x5 (Rect.unit (s := S2x1x512x128) ![h, 0, R, l] ![1, 1, 128, 1] inb)

/-- A load of a head's gates. -/
theorem gs_eq (x5 : Vec Ideal S2x1x512x128 .f32) (h l R : ℕ) (inb) :
    View.ld x5 (Rect.unit (s := S2x1x512x128) ![h, 0, R, l] ![1, 1, 128, 1] inb) = gs x5 h l R inb := by
  unfold gs
  rfl

/-- A head's gate at a row. -/
theorem gs_apply (x5 : Vec Ideal S2x1x512x128 .f32) (h : Fin 2) (l : Fin 128) (R : ℕ) (hR : R + 128 ≤ 512) (inb) (i : Fin 128) :
    gs x5 h.val l.val R inb (ix4 0 0 i 0) = x5 (ix4 h 0 ⟨R + i.val, by omega⟩ l) := by
  unfold gs
  exact congrArg x5 (ext4 (show h.val + 1 * 0 = h.val by omega) (show 0 + 1 * 0 = 0 by omega) (show R + 1 * i.val = R + i.val by omega)
    (show l.val + 1 * 0 = l.val by omega))

/-- The rows of a block of keys or values, as they are stored. -/
theorem rows_apply (x : Vec Ideal S1x1x512x128 .bf16) (a : Fin 512) (l : Fin 128) :
    k0_pay156 (F := Ideal) x (ix3 0 a l) = x (ix4 0 0 a l) := by
  pointwise [k0_pay156]

section Reads
variable {sig : RefSig} {κ : Kind} {sp : Space} (v : View sig κ sp S1x1024x128 .bf16) (xp xc : Vec Ideal S1x1x512x128 .bf16)

/-- The keys of a sub-block's window, as they are loaded. -/
@[irreducible] def ks (R o : ℕ) (inb : ∀ a, ![0, R, o] a + ![1, 640, 64] a ≤ S1x1024x128.size a) : Vec Ideal S1x640x64 .bf16 :=
  v.readCov [⟨Rect.unit (s := S1x1024x128) ![0, 512, 0] ![1, 512, 128] inb_S1x1024x128_S1x512x128_0_512_0, k0_pay157 (F := Ideal) xc⟩,
    ⟨Rect.unit (s := S1x1024x128) ![0, 0, 0] ![1, 512, 128] inb_S1x1024x128_S1x512x128_0_0_0, k0_pay156 (F := Ideal) xp⟩]
    (Rect.unit (s := S1x1024x128) ![0, R, o] ![1, 640, 64] inb).toLoadRect

/-- A load of a window's keys. -/
theorem ks_eq (R o : ℕ) (inb) :
    v.readCov [⟨Rect.unit (s := S1x1024x128) ![0, 512, 0] ![1, 512, 128] inb_S1x1024x128_S1x512x128_0_512_0, k0_pay157 (F := Ideal) xc⟩,
    ⟨Rect.unit (s := S1x1024x128) ![0, 0, 0] ![1, 512, 128] inb_S1x1024x128_S1x512x128_0_0_0, k0_pay156 (F := Ideal) xp⟩]
      (Rect.unit (s := S1x1024x128) ![0, R, o] ![1, 640, 64] inb).toLoadRect = ks v xp xc R o inb := by
  unfold ks
  rfl

/-- An entry of a window's keys. -/
theorem ks_apply (R o : ℕ) (hR : R + 128 ≤ 512) (ho : o + 64 ≤ 128) (inb) (x : Fin 640) (d : Fin 64) :
    ks v xp xc R o inb (ix3 0 x d) = cat xp xc ⟨R + x.val, by omega⟩ ⟨o + d.val, by omega⟩ := by
  unfold ks
  exact cat_read xp xc _ _ (rows_apply xp) (rows_apply xc) v R o 64 ho (by omega) _ _ _ x d

/-- The values of a sub-block's window, as they are loaded. -/
@[irreducible] def vs (R o : ℕ) (inb : ∀ a, ![0, R, o] a + ![1, 640, 128] a ≤ S1x1024x128.size a) : Vec Ideal S1x640x128 .bf16 :=
  v.readCov [⟨Rect.unit (s := S1x1024x128) ![0, 512, 0] ![1, 512, 128] inb_S1x1024x128_S1x512x128_0_512_0, k0_pay159 (F := Ideal) xc⟩,
    ⟨Rect.unit (s := S1x1024x128) ![0, 0, 0] ![1, 512, 128] inb_S1x1024x128_S1x512x128_0_0_0, k0_pay158 (F := Ideal) xp⟩]
    (Rect.unit (s := S1x1024x128) ![0, R, o] ![1, 640, 128] inb).toLoadRect

/-- A load of a window's values. -/
theorem vs_eq (R o : ℕ) (inb) :
    v.readCov [⟨Rect.unit (s := S1x1024x128) ![0, 512, 0] ![1, 512, 128] inb_S1x1024x128_S1x512x128_0_512_0, k0_pay159 (F := Ideal) xc⟩,
    ⟨Rect.unit (s := S1x1024x128) ![0, 0, 0] ![1, 512, 128] inb_S1x1024x128_S1x512x128_0_0_0, k0_pay158 (F := Ideal) xp⟩]
      (Rect.unit (s := S1x1024x128) ![0, R, o] ![1, 640, 128] inb).toLoadRect = vs v xp xc R o inb := by
  unfold vs
  rfl

/-- An entry of a window's values. -/
theorem vs_apply (R o : ℕ) (hR : R + 128 ≤ 512) (ho : o + 128 ≤ 128) (inb) (x : Fin 640) (d : Fin 128) :
    vs v xp xc R o inb (ix3 0 x d) = cat xp xc ⟨R + x.val, by omega⟩ ⟨o + d.val, by omega⟩ := by
  unfold vs
  exact cat_read xp xc _ _ (rows_apply xp) (rows_apply xc) v R o 128 ho (by omega) _ _ _ x d

end Reads

section Bands
variable {sig : RefSig} {κ : Kind} {sp : Space} (v : View sig κ sp S5x640x512 .f32)

/-- A band just stored reads back. -/
theorem band_top (a : ℕ) (inb1) (inb2) (w) (L : List (View.Piece (Elt Ideal) S5x640x512 .f32)) :
    v.readCov (⟨Rect.unit (s := S5x640x512) ![a, 0, 0] ![1, 640, 512] inb1, w⟩ :: L) (Rect.unit (s := S5x640x512) ![a, 0, 0] ![1, 640, 512] inb2).toLoadRect = w :=
  View.readCov_cons_toLoadRect (Val := Elt Ideal) v (Rect.unit (s := S5x640x512) ![a, 0, 0] ![1, 640, 512] inb1) w L

variable (x : Fin 640) (col : Fin 512)

/-- The band of the first tile's sub-block 0. -/
theorem first_1 : k0_pay6 (F := Ideal) (iota .tc S640x512 32 [0] iota_S640x512_d0_w32) (k0_pay1 (iota .tc S640x512 32 [0] iota_S640x512_d0_w32) k0_pay160) (ix3 0 x col) = band 512 x.val col.val := by
  pointwise [k0_pay6]
  exact band_from x col 512 512#32 rfl

/-- The band of the first tile's sub-block 1. -/
theorem first_2 : k0_pay7 (F := Ideal) (iota .tc S640x512 32 [0] iota_S640x512_d0_w32) (k0_pay1 (iota .tc S640x512 32 [0] iota_S640x512_d0_w32) k0_pay160) (ix3 0 x col) = band 384 x.val col.val := by
  pointwise [k0_pay7]
  exact band_from x col 384 384#32 rfl

/-- The band of the first tile's sub-block 2. -/
theorem first_3 : k0_pay8 (F := Ideal) (iota .tc S640x512 32 [0] iota_S640x512_d0_w32) (k0_pay1 (iota .tc S640x512 32 [0] iota_S640x512_d0_w32) k0_pay160) (ix3 0 x col) = band 256 x.val col.val := by
  pointwise [k0_pay8]
  exact band_from x col 256 256#32 rfl

/-- The band of the first tile's sub-block 3. -/
theorem first_4 : k0_pay9 (F := Ideal) (iota .tc S640x512 32 [0] iota_S640x512_d0_w32) (k0_pay1 (iota .tc S640x512 32 [0] iota_S640x512_d0_w32) k0_pay160) (ix3 0 x col) = band 128 x.val col.val := by
  pointwise [k0_pay9]
  exact band_from x col 128 128#32 rfl

end Bands

/-- A sub-block's values as a function of what its loads read. -/
def blockV (q0 q1 q2 q3 q4 q5 q6 q7 : Vec Ideal S1x1x128x64 .f32) (k0 k1 : Vec Ideal S1x640x64 .bf16) (b : Vec Ideal S1x640x512 .f32) (v : Vec Ideal S1x640x128 .bf16)
    (g0 g1 g2 g3 g4 g5 g6 g7 : Vec Ideal S1x1x128x1 .f32) : Vec Ideal S1x1x128x512 .bf16 :=
  k0_pay4 (k0_pay87 k0_pay2 (k0_pay41 (k0_pay10 q0 q1 q2 q3 k0 b)) v g0)
    (k0_pay88 k0_pay2 (k0_pay41 (k0_pay10 q0 q1 q2 q3 k0 b)) v g1)
    (k0_pay91 (k0_pay89 k0_pay2 (k0_pay41 (k0_pay10 q0 q1 q2 q3 k0 b)) v) (k0_pay90 g2))
    (k0_pay92 (k0_pay85 k0_pay2 (k0_pay41 (k0_pay10 q0 q1 q2 q3 k0 b)) v) (k0_pay86 k0_pay2 (k0_pay41 (k0_pay10 q0 q1 q2 q3 k0 b)) v) g3)
    (k0_pay44 k0_pay2 (k0_pay41 (k0_pay10 q4 q5 q6 q7 k1 b)) v g4)
    (k0_pay45 k0_pay2 (k0_pay41 (k0_pay10 q4 q5 q6 q7 k1 b)) v g5)
    (k0_pay79 (k0_pay42 k0_pay2 (k0_pay41 (k0_pay10 q4 q5 q6 q7 k1 b)) v) (k0_pay43 k0_pay2 (k0_pay41 (k0_pay10 q4 q5 q6 q7 k1 b)) v) g6)
    (k0_pay155 (k0_pay42 k0_pay2 (k0_pay41 (k0_pay10 q4 q5 q6 q7 k1 b)) v) (k0_pay43 k0_pay2 (k0_pay41 (k0_pay10 q4 q5 q6 q7 k1 b)) v) g7)

/-- A sub-block's values, from the loads of its rows. -/
theorem block_at (lo : ℕ → ℕ) (x0 : Vec Ideal S8x1x512x64 .f32) (x1 x2 x3 x4 : Vec Ideal S1x1x512x128 .bf16) (x5 : Vec Ideal S2x1x512x128 .f32)
    {sig : RefSig} {κ : Kind} {sp : Space} (v w : View sig κ sp S1x1024x128 .bf16) (j : Fin 4) (R : ℕ) (hR : R = 128 * j.val) (b : Vec Ideal S1x640x512 .f32)
    (hb : ∀ (x : Fin 640) (col : Fin 512), b (ix3 0 x col) = band (lo j.val) x.val col.val)
    (i0) (i1) (i2) (i3) (i4) (i5) (i6) (i7) (m0) (m1) (m2) (n0) (n1) (n2) (n3) (n4) (n5) (n6) (n7) (inb) (y : S1x1x128x512.Idx) :
    blockV (qs x0 0 R i0) (qs x0 1 R i1) (qs x0 2 R i2) (qs x0 3 R i3) (qs x0 4 R i4) (qs x0 5 R i5) (qs x0 6 R i6) (qs x0 7 R i7) (ks v x1 x2 R 0 m0) (ks v x1 x2 R 64 m1) b (vs w x3 x4 R 0 m2)
      (gs x5 0 2 R n0) (gs x5 0 5 R n1) (gs x5 0 8 R n2) (gs x5 0 11 R n3) (gs x5 1 2 R n4) (gs x5 1 5 R n5) (gs x5 1 8 R n6) (gs x5 1 11 R n7) y
      = winV lo x0 x1 x2 x3 x4 x5 ((Rect.unit (s := S1x1x512x512) ![0, 0, R, 0] ![1, 1, 128, 512] inb).emb y) :=
  have hR' : R + 128 ≤ 512 := by omega
  block_apply lo x0 x1 x2 x3 x4 x5 j R hR ![qs x0 0 R i0, qs x0 1 R i1, qs x0 2 R i2, qs x0 3 R i3, qs x0 4 R i4, qs x0 5 R i5, qs x0 6 R i6, qs x0 7 R i7] ![ks v x1 x2 R 0 m0, ks v x1 x2 R 64 m1] b (vs w x3 x4 R 0 m2)
    ![gs x5 0 2 R n0, gs x5 0 5 R n1, gs x5 0 8 R n2, gs x5 0 11 R n3, gs x5 1 2 R n4, gs x5 1 5 R n5, gs x5 1 8 R n6, gs x5 1 11 R n7]
    (fun e i d => match e with | 0 => qs_apply x0 0 R hR' i0 i d | 1 => qs_apply x0 1 R hR' i1 i d | 2 => qs_apply x0 2 R hR' i2 i d | 3 => qs_apply x0 3 R hR' i3 i d | 4 => qs_apply x0 4 R hR' i4 i d | 5 => qs_apply x0 5 R hR' i5 i d | 6 => qs_apply x0 6 R hR' i6 i d | 7 => qs_apply x0 7 R hR' i7 i d)
    (fun h x d => match h with | 0 => ks_apply v x1 x2 R 0 hR' (by omega) m0 x d | 1 => ks_apply v x1 x2 R 64 hR' (by omega) m1 x d) hb
    (fun x l => (vs_apply w x3 x4 R 0 hR' (by omega) m2 x l).trans (congrArg (cat x3 x4 _) (Fin.ext (Nat.zero_add l.val))))
    (fun e i => match e with | 0 => gs_apply x5 0 2 R hR' n0 i | 1 => gs_apply x5 0 5 R hR' n1 i | 2 => gs_apply x5 0 8 R hR' n2 i | 3 => gs_apply x5 0 11 R hR' n3 i | 4 => gs_apply x5 1 2 R hR' n4 i | 5 => gs_apply x5 1 5 R hR' n5 i | 6 => gs_apply x5 1 8 R hR' n6 i | 7 => gs_apply x5 1 11 R hR' n7 i)
    ![k0_pay10 (qs x0 0 R i0) (qs x0 1 R i1) (qs x0 2 R i2) (qs x0 3 R i3) (ks v x1 x2 R 0 m0) b,
      k0_pay10 (qs x0 4 R i4) (qs x0 5 R i5) (qs x0 6 R i6) (qs x0 7 R i7) (ks v x1 x2 R 64 m1) b] rfl rfl inb y

set_option maxHeartbeats 2000000 in
/-- The first tile of a batch: its keys before the first row are not there. -/
theorem outA (c : Dev nD) (i : grid0.Coords) (arg3 : Memref sig .tc .vmem S8x1x512x64 .f32) (harg3 : arg3.IsWhole) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x1x512x128 .bf16) (harg7 : arg7.IsWhole) (arg8 : Memref sig .tc .vmem S2x1x512x128 .f32) (harg8 : arg8.IsWhole) (arg9 : Memref sig .tc .vmem S1x1x512x512 .bf16) (harg9 : arg9.IsWhole) (arg10 : Memref sig .tc .vmem S1x1024x128 .bf16) (harg10 : arg10.IsWhole) (arg11 : Memref sig .tc .vmem S1x1024x128 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S5x640x512 .f32) (harg14 : arg14.IsWhole) (hc0 : cond0_0 i) (hc1 : ¬cond0_1 i)
    (x0 : Vec Ideal S8x1x512x64 .f32) (x1 x2 x3 x4 : Vec Ideal S1x1x512x128 .bf16) (x5 : Vec Ideal S2x1x512x128 .f32) :
    out0_A_6 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = winV (fun j => 512 - 128 * j) x0 x1 x2 x3 x4 x5 := by
  frame_out
  simp only [k0_pay3, k0_pay28, k0_pay48, k0_pay63, k0_pay64, k0_pay99, k0_pay122, k0_pay138]
  simp only [↓cat_fold, ↓qcat_fold]
  simp (decide := true) only [View.readCov_cons_toLoadRect, read_whole, harg3.read_unread, harg4.read_unread, harg5.read_unread, harg6.read_unread, harg7.read_unread, harg8.read_unread, ld_whole, qs_eq, gs_eq, ks_eq, vs_eq, band_skip, band_top]
  funext y
  refine four_blocks _ _ _ _ _ _ _ _ _ (fun x => ?_) (fun x => ?_) (fun x => ?_) (fun x => ?_) y
  · refine Eq.trans ?_ (block_at (fun j => 512 - 128 * j) x0 x1 x2 x3 x4 x5 arg10.view arg11.view 0 0 rfl (k0_pay6 (F := Ideal) (iota .tc S640x512 32 [0] iota_S640x512_d0_w32) (k0_pay1 (iota .tc S640x512 32 [0] iota_S640x512_d0_w32) k0_pay160)) (fun x col => (first_1 x col).trans (congrArg (fun n => band n x.val col.val) (show _ = 512 - 128 * 0 by decide))) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun j => 512 - 128 * j) x0 x1 x2 x3 x4 x5 arg10.view arg11.view 1 128 rfl (k0_pay7 (F := Ideal) (iota .tc S640x512 32 [0] iota_S640x512_d0_w32) (k0_pay1 (iota .tc S640x512 32 [0] iota_S640x512_d0_w32) k0_pay160)) (fun x col => (first_2 x col).trans (congrArg (fun n => band n x.val col.val) (show _ = 512 - 128 * 1 by decide))) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun j => 512 - 128 * j) x0 x1 x2 x3 x4 x5 arg10.view arg11.view 2 256 rfl (k0_pay8 (F := Ideal) (iota .tc S640x512 32 [0] iota_S640x512_d0_w32) (k0_pay1 (iota .tc S640x512 32 [0] iota_S640x512_d0_w32) k0_pay160)) (fun x col => (first_3 x col).trans (congrArg (fun n => band n x.val col.val) (show _ = 512 - 128 * 2 by decide))) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun j => 512 - 128 * j) x0 x1 x2 x3 x4 x5 arg10.view arg11.view 3 384 rfl (k0_pay9 (F := Ideal) (iota .tc S640x512 32 [0] iota_S640x512_d0_w32) (k0_pay1 (iota .tc S640x512 32 [0] iota_S640x512_d0_w32) k0_pay160)) (fun x col => (first_4 x col).trans (congrArg (fun n => band n x.val col.val) (show _ = 512 - 128 * 3 by decide))) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]

set_option maxHeartbeats 2000000 in
/-- A later tile of a batch. -/
theorem outB (c : Dev nD) (i : grid0.Coords) (arg3 : Memref sig .tc .vmem S8x1x512x64 .f32) (harg3 : arg3.IsWhole) (arg4 : Memref sig .tc .vmem S1x1x512x128 .bf16) (harg4 : arg4.IsWhole) (arg5 : Memref sig .tc .vmem S1x1x512x128 .bf16) (harg5 : arg5.IsWhole) (arg6 : Memref sig .tc .vmem S1x1x512x128 .bf16) (harg6 : arg6.IsWhole) (arg7 : Memref sig .tc .vmem S1x1x512x128 .bf16) (harg7 : arg7.IsWhole) (arg8 : Memref sig .tc .vmem S2x1x512x128 .f32) (harg8 : arg8.IsWhole) (arg9 : Memref sig .tc .vmem S1x1x512x512 .bf16) (harg9 : arg9.IsWhole) (arg10 : Memref sig .tc .vmem S1x1024x128 .bf16) (harg10 : arg10.IsWhole) (arg11 : Memref sig .tc .vmem S1x1024x128 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S5x640x512 .f32) (harg14 : arg14.IsWhole) (hc0 : ¬cond0_0 i) (hc1 : cond0_1 i)
    (x0 : Vec Ideal S8x1x512x64 .f32) (x1 x2 x3 x4 : Vec Ideal S1x1x512x128 .bf16) (x5 : Vec Ideal S2x1x512x128 .f32) :
    out0_B_6 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = winV (fun _ => 0) x0 x1 x2 x3 x4 x5 := by
  frame_out
  simp only [k0_pay3, k0_pay28, k0_pay48, k0_pay63, k0_pay64, k0_pay99, k0_pay122, k0_pay138]
  simp only [↓cat_fold, ↓qcat_fold]
  simp only [View.readCov_cons_toLoadRect, read_whole, harg3.read_unread, harg4.read_unread, harg5.read_unread, harg6.read_unread, harg7.read_unread, harg8.read_unread, ld_whole, qs_eq, gs_eq, ks_eq, vs_eq]
  funext y
  refine four_blocks _ _ _ _ _ _ _ _ _ (fun x => ?_) (fun x => ?_) (fun x => ?_) (fun x => ?_) y
  · refine Eq.trans ?_ (block_at (fun _ => 0) x0 x1 x2 x3 x4 x5 arg10.view arg11.view 0 0 rfl (k0_pay81 (F := Ideal) (k0_pay1 (iota .tc S640x512 32 [0] iota_S640x512_d0_w32) k0_pay160)) (fun x col => band_all x col) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun _ => 0) x0 x1 x2 x3 x4 x5 arg10.view arg11.view 1 128 rfl (k0_pay81 (F := Ideal) (k0_pay1 (iota .tc S640x512 32 [0] iota_S640x512_d0_w32) k0_pay160)) (fun x col => band_all x col) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun _ => 0) x0 x1 x2 x3 x4 x5 arg10.view arg11.view 2 256 rfl (k0_pay81 (F := Ideal) (k0_pay1 (iota .tc S640x512 32 [0] iota_S640x512_d0_w32) k0_pay160)) (fun x col => band_all x col) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]
  · refine Eq.trans ?_ (block_at (fun _ => 0) x0 x1 x2 x3 x4 x5 arg10.view arg11.view 3 384 rfl (k0_pay81 (F := Ideal) (k0_pay1 (iota .tc S640x512 32 [0] iota_S640x512_d0_w32) k0_pay160)) (fun x col => band_all x col) (by decide) (by decide) (by decide) (by decide) (by decide) (by decide) (by decide) (by decide) (by decide) (by decide) (by decide) (by decide) (by decide) (by decide) (by decide) (by decide) (by decide) (by decide) (by decide) _ x)
    · simp only [blockV, shapeCast_self, qcat, k0_pay3, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]

end Cert.KernelIdeal.Win
end
-- ==== Proof.WinSpec.lean ====
module

public import proofs.«01_k».proof.Proof.Spec

/-! What one entry of the window branch is, as plain mathematics over the extended reals. -/

@[expose] public section
noncomputable section
namespace Cert.Window
open Idealize.ShloMosaic

/-- The keys a query at row `t` sees: its own row and the 511 rows before it. -/
def Sees (t u : ℕ) : Prop := u ≤ t ∧ t ≤ u + 511

instance (t u : ℕ) : Decidable (Sees t u) := inferInstanceAs (Decidable (_ ∧ _))

/-- The score of a query against key `u`, minus infinity for a key it does not see. -/
def score (q : Fin 64 → EReal) (k : Fin 4096 → Fin 64 → EReal) (t : ℕ) (u : Fin 4096) : EReal :=
  if Sees t u.val then (∑ d, q d * k u d) * ((8⁻¹ : ℝ) : EReal) else ⊥

/-- The weight of key `u`, before the weights are divided by their sum. -/
def part (q : Fin 64 → EReal) (k : Fin 4096 → Fin 64 → EReal) (t : ℕ) (u : Fin 4096) : EReal :=
  if Sees t u.val then Ideal.exp (score q k t u - Finset.fold max ⊥ (score q k t) Finset.univ) else 0

/-- The sum of the weights, one where there is none. -/
def total (q : Fin 64 → EReal) (k : Fin 4096 → Fin 64 → EReal) (t : ℕ) : EReal :=
  if 0 < ∑ u, part q k t u then ∑ u, part q k t u else 1

/-- An entry of the branch: the weighted values over the weights' sum, times the gate. -/
def windowed (q : Fin 64 → EReal) (k : Fin 4096 → Fin 64 → EReal) (v : Fin 4096 → EReal) (g : EReal) (t : ℕ) : EReal :=
  g * Ideal.div (∑ u, part q k t u * v u) (total q k t)

/-- A gate, from its logit. -/
def gate (x : EReal) : EReal := Ideal.div 1 (1 + Ideal.exp (-x))

end Cert.Window
end
-- ==== Proof.WinMath.lean ====
module

public import proofs.«01_k».proof.Proof.WinSpec
public import proofs.«01_k».proof.Proof.WinBlock

/-! The window of 640 keys a sub-block loads gives what the softmax over all 4096 keys gives. -/

@[expose] public section
noncomputable section
namespace Cert.Window
open Idealize.ShloMosaic Cert.KernelIdeal.Win

/-- Multiplying by a finite nonnegative number goes through a sum of two. -/
theorem add_mul_coe (c : ℝ) (hc : 0 ≤ c) (x y : EReal) : (x + y) * (c : EReal) = x * c + y * c :=
  EReal.right_distrib_of_nonneg_of_ne_top (EReal.coe_nonneg.mpr hc) (EReal.coe_ne_top c) x y

/-- Multiplying by a finite nonnegative number goes through a sum. -/
theorem sum_mul_coe {ι : Type} (c : ℝ) (hc : 0 ≤ c) (s : Finset ι) (f : ι → EReal) : (∑ x ∈ s, f x) * (c : EReal) = ∑ x ∈ s, f x * c := by
  induction s using Finset.cons_induction with
  | empty => simp
  | cons a s ha ih => rw [Finset.sum_cons, Finset.sum_cons, add_mul_coe c hc, ih]

/-- Multiplying by a finite positive number goes through a difference. -/
theorem sub_mul_coe (c : ℝ) (hc : 0 ≤ c) (x y : EReal) : (x - y) * (c : EReal) = x * c - y * c := by
  rw [sub_eq_add_neg, sub_eq_add_neg, add_mul_coe c hc, EReal.neg_mul]

/-- One over the logarithm of two is positive. -/
theorem inv_log_pos : 0 < (Real.log 2)⁻¹ := inv_pos.mpr (Real.log_pos (by norm_num))

/-- A power of two whose exponent is over the logarithm of two is an exponential. -/
theorem exp2_scaled (x : EReal) : Ideal.exp2 (x * (((Real.log 2)⁻¹ : ℝ) : EReal)) = Ideal.exp x := by
  induction x using EReal.rec with
  | bot => rw [EReal.bot_mul_coe_of_pos inv_log_pos]; rfl
  | top => rw [EReal.top_mul_coe_of_pos inv_log_pos]; rfl
  | coe r =>
    rw [← EReal.coe_mul]
    show ((Real.rpow 2 (r * (Real.log 2)⁻¹) : ℝ) : EReal) = (Real.exp r : EReal)
    have h : Real.log 2 ≠ 0 := (Real.log_pos (by norm_num)).ne'
    have e : Real.rpow 2 (r * (Real.log 2)⁻¹) = Real.exp (Real.log 2 * (r * (Real.log 2)⁻¹)) := Real.rpow_def_of_pos (by norm_num) _
    rw [e, mul_comm r, ← mul_assoc, mul_inv_cancel₀ h, one_mul]

/-- What is there for the window's key `x`: it is in the band of the query in row `i` of its sub-block, and not before the first row. -/
def There (b i x : ℕ) : Prop := i + 1 ≤ x ∧ x ≤ i + 512 ∧ 512 ≤ b + x

instance (b i x : ℕ) : Decidable (There b i x) := inferInstanceAs (Decidable (_ ∧ _ ∧ _))

section Window
variable (b i t : ℕ) (hi : i < 128) (ht : t = b + i) (ht4 : t < 4096)
include hi ht ht4

/-- A key that is there is a row the query sees. -/
theorem sees_of_there (x : Fin 640) (h : There b i x.val) : ∃ u : Fin 4096, u.val + 512 = b + x.val ∧ Sees t u.val := by
  obtain ⟨h1, h2, h3⟩ := h
  exact ⟨⟨b + x.val - 512, by omega⟩, by show b + x.val - 512 + 512 = _; omega, by show b + x.val - 512 ≤ t; omega, by show t ≤ b + x.val - 512 + 511; omega⟩

/-- A row the query sees is a key that is there. -/
theorem there_of_sees (u : Fin 4096) (h : Sees t u.val) : ∃ x : Fin 640, u.val + 512 = b + x.val ∧ There b i x.val := by
  obtain ⟨h1, h2⟩ := h
  exact ⟨⟨u.val + 512 - b, by omega⟩, by show _ = b + (u.val + 512 - b); omega, by show i + 1 ≤ u.val + 512 - b; omega,
    by show u.val + 512 - b ≤ i + 512; omega, by show 512 ≤ b + (u.val + 512 - b); omega⟩

/-- A sum over the window is the sum over all rows, if both are zero where nothing is seen. -/
theorem sum_window (A : Fin 640 → EReal) (B : Fin 4096 → EReal) (hA : ∀ x : Fin 640, ¬There b i x.val → A x = 0)
    (hB : ∀ u : Fin 4096, ¬Sees t u.val → B u = 0) (h : ∀ (x : Fin 640) (u : Fin 4096), u.val + 512 = b + x.val → There b i x.val → Sees t u.val → A x = B u) :
    ∑ x, A x = ∑ u, B u := by
  rw [← Finset.sum_filter_of_ne (s := Finset.univ) (f := A) (p := fun x : Fin 640 => There b i x.val) (fun x _ n => by_contra fun c => n (hA x c)),
    ← Finset.sum_filter_of_ne (s := Finset.univ) (f := B) (p := fun u : Fin 4096 => Sees t u.val) (fun u _ n => by_contra fun c => n (hB u c))]
  have l : ∀ x : Fin 640, There b i x.val → b + x.val - 512 < 4096 := fun x ⟨h1, h2, h3⟩ => by omega
  have r : ∀ u : Fin 4096, Sees t u.val → u.val + 512 - b < 640 := fun u ⟨h1, h2⟩ => by omega
  refine Finset.sum_bij' (fun x hx => ⟨b + x.val - 512, l x (Finset.mem_filter.mp hx).2⟩) (fun u hu => ⟨u.val + 512 - b, r u (Finset.mem_filter.mp hu).2⟩) ?_ ?_ ?_ ?_ ?_
  · intro x hx
    obtain ⟨h1, h2, h3⟩ := (Finset.mem_filter.mp hx).2
    refine Finset.mem_filter.mpr ⟨Finset.mem_univ _, ?_, ?_⟩
    · show b + x.val - 512 ≤ t; omega
    · show t ≤ b + x.val - 512 + 511; omega
  · intro u hu
    obtain ⟨h1, h2⟩ := (Finset.mem_filter.mp hu).2
    refine Finset.mem_filter.mpr ⟨Finset.mem_univ _, ?_, ?_, ?_⟩
    · show i + 1 ≤ u.val + 512 - b; omega
    · show u.val + 512 - b ≤ i + 512; omega
    · show 512 ≤ b + (u.val + 512 - b); omega
  · intro x hx
    obtain ⟨h1, h2, h3⟩ := (Finset.mem_filter.mp hx).2
    apply Fin.ext
    show b + x.val - 512 + 512 - b = x.val
    omega
  · intro u hu
    obtain ⟨h1, h2⟩ := (Finset.mem_filter.mp hu).2
    apply Fin.ext
    show b + (u.val + 512 - b) - 512 = u.val
    omega
  · intro x hx
    have g := (Finset.mem_filter.mp hx).2
    have ⟨h1, h2, h3⟩ := g
    exact h x _ (by show b + x.val - 512 + 512 = _; omega) g (by
      constructor
      · show b + x.val - 512 ≤ t; omega
      · show t ≤ b + x.val - 512 + 511; omega)

/-- An entry of the gated attention over the window is an entry of the branch. -/
theorem attend_eq (q : Fin 64 → EReal) (k : Fin 4096 → Fin 64 → EReal) (v : Fin 4096 → EReal) (g : EReal) (K : Fin 640 → Fin 64 → EReal) (W : Fin 640 → EReal)
    (lo : ℕ) (hlo : ∀ x, lo ≤ x ↔ 512 ≤ b + x)
    (hK : ∀ (x : Fin 640) (u : Fin 4096), u.val + 512 = b + x.val → ∀ d, K x d = k u d) (hW : ∀ (x : Fin 640) (u : Fin 4096), u.val + 512 = b + x.val → W x = v u) :
    attend (fun x => (∑ d, K x d * (q d * ((8⁻¹ * (Real.log 2)⁻¹ : ℝ) : EReal))) + band lo x.val i) W g = windowed q k v g t := by
  have hp := inv_log_pos
  have im : i % 128 = i := Nat.mod_eq_of_lt hi
  set s : Fin 640 → EReal := fun x => (∑ d, K x d * (q d * ((8⁻¹ * (Real.log 2)⁻¹ : ℝ) : EReal))) + band lo x.val i with hs
  have s0 : ∀ x : Fin 640, ¬There b i x.val → s x = ⊥ := fun x h => by
    have n : ¬(i % 128 + 1 ≤ x.val ∧ x.val ≤ i % 128 + 512 ∧ lo ≤ x.val) := by rw [im, hlo]; exact h
    simp only [hs, band, if_neg n, EReal.add_bot]
  have s1 : ∀ (x : Fin 640) (u : Fin 4096), u.val + 512 = b + x.val → There b i x.val → Sees t u.val →
      s x = score q k t u * (((Real.log 2)⁻¹ : ℝ) : EReal) := fun x u e h h' => by
    have n : i % 128 + 1 ≤ x.val ∧ x.val ≤ i % 128 + 512 ∧ lo ≤ x.val := by rw [im, hlo]; exact h
    simp only [hs, band, if_pos n, add_zero, score, if_pos h', hK x u e]
    rw [sum_mul_coe _ (by norm_num), sum_mul_coe _ hp.le]
    refine Finset.sum_congr rfl fun d _ => ?_
    rw [EReal.coe_mul, mul_comm (q d) (k u d), mul_assoc, mul_assoc]
  have hm : Finset.fold max ⊥ s Finset.univ = Finset.fold max ⊥ (score q k t) Finset.univ * (((Real.log 2)⁻¹ : ℝ) : EReal) := by
    have mono : Monotone fun x : EReal => x * (((Real.log 2)⁻¹ : ℝ) : EReal) := fun x y h => mul_le_mul_of_nonneg_right h (EReal.coe_nonneg.mpr hp.le)
    have e : Finset.fold max ⊥ (score q k t) Finset.univ * (((Real.log 2)⁻¹ : ℝ) : EReal)
        = Finset.sup Finset.univ fun u => score q k t u * (((Real.log 2)⁻¹ : ℝ) : EReal) :=
      Finset.comp_sup_eq_sup_comp (fun x : EReal => x * (((Real.log 2)⁻¹ : ℝ) : EReal)) (fun x y => mono.map_max) (EReal.bot_mul_coe_of_pos hp)
    rw [e]
    show Finset.sup Finset.univ s = _
    refine le_antisymm (Finset.sup_le fun x _ => ?_) (Finset.sup_le fun u _ => ?_)
    · by_cases h : There b i x.val
      · obtain ⟨u, e1, e2⟩ := sees_of_there b i t hi ht ht4 x h
        rw [s1 x u e1 h e2]
        exact Finset.le_sup (f := fun u => score q k t u * (((Real.log 2)⁻¹ : ℝ) : EReal)) (Finset.mem_univ u)
      · rw [s0 x h]; exact bot_le
    · by_cases h : Sees t u.val
      · obtain ⟨x, e1, e2⟩ := there_of_sees b i t hi ht ht4 u h
        rw [← s1 x u e1 e2 h]
        exact Finset.le_sup (f := s) (Finset.mem_univ x)
      · rw [score, if_neg h, EReal.bot_mul_coe_of_pos hp]; exact bot_le
  have w0 : ∀ x : Fin 640, ¬There b i x.val → weight s x = 0 := fun x h => by
    rw [weight, s0 x h, sub_eq_add_neg, EReal.bot_add]; rfl
  have p0 : ∀ u : Fin 4096, ¬Sees t u.val → part q k t u = 0 := fun u h => if_neg h
  have w1 : ∀ (x : Fin 640) (u : Fin 4096), u.val + 512 = b + x.val → There b i x.val → Sees t u.val → weight s x = part q k t u := fun x u e h h' => by
    rw [weight, hm, s1 x u e h h', ← sub_mul_coe _ hp.le, exp2_scaled, part, if_pos h']
  have hsum : ∑ x, weight s x = ∑ u, part q k t u := sum_window b i t hi ht ht4 _ _ w0 p0 w1
  have hval : ∑ x, W x * weight s x = ∑ u, part q k t u * v u :=
    sum_window b i t hi ht ht4 _ _ (fun x h => by rw [w0 x h, mul_zero]) (fun u h => by rw [p0 u h, zero_mul])
      fun x u e h h' => by rw [w1 x u e h h', hW x u e, mul_comm]
  rw [attend, windowed, hval, hsum]
  show _ * Ideal.div 1 (total q k t) * g = _
  have ne : total q k t ≠ 0 := by
    unfold total
    split_ifs with h
    · exact h.ne'
    · exact one_ne_zero
  rw [Ideal.div, Ideal.div, if_neg ne, if_neg ne, one_mul, mul_comm]

end Window
end Cert.Window
end
-- ==== Proof.Arr1.lean ====
module

public import proofs.«01_k».proof.Proof.Win
public import proofs.«01_k».proof.Proof.WinMath
public import Idealize.ShloMosaic.Lib.StableHlo.ReadAt
public import Idealize.ShloMosaic.Lib.Pipeline.ValueKit.Geometry
public import Idealize.ShloMosaic.Lib.IdealHost

/-! The whole output array of the window branch, from its grid points. -/

@[expose] public section
set_option maxRecDepth 16384
noncomputable section
namespace Cert.KernelIdeal.Win
open Idealize.ShloMosaic Idealize.ShloMosaic.TcCoe Idealize.ShloMosaic.Tactic Cert.KernelIdeal Cert.KernelIdeal.Gen Cert.Places Cert.Window

variable (m : (ℓ : Loc nD τ sig) → Buf (Elt Ideal) ℓ)

/-- The queries as the kernel finds them: head by head. -/
theorem V_q (c : Dev nD) (e : Fin 8) (b : Fin 8) (t : Fin 4096) (d : Fin 64) : V m c main_v1 (ix4 e b t d)
    = m ((c.tc : Thread nD τ).loc main_arg0) (ix3 b t ⟨64 * e.val + d.val, by omega⟩) := by
  unfold V; after_reads_at
  exact congrArg _ (ext3 rfl rfl (show e.val * 64 + d.val = 64 * e.val + d.val by omega))

/-- The keys as the kernel finds them: rounding is the identity here, so they are the argument under one more axis. -/
theorem V_k (c : Dev nD) (b : Fin 8) (t : Fin 4096) (l : Fin 128) : V m c main_v12 (ix4 b 0 t l)
    = m ((c.tc : Thread nD τ).loc main_arg1) (ix3 b t l) := by
  unfold V; after_reads_at

/-- The values as the kernel finds them: the argument under one more axis. -/
theorem V_v (c : Dev nD) (b : Fin 8) (t : Fin 4096) (l : Fin 128) : V m c main_v14 (ix4 b 0 t l)
    = m ((c.tc : Thread nD τ).loc main_arg2) (ix3 b t l) := by
  unfold V; after_reads_at

/-- The gates as the kernel finds them. -/
theorem V_g (c : Dev nD) (h : Fin 2) (b : Fin 8) (t : Fin 4096) (l : Fin 12) : V m c main_v10 (ix4 h b t ⟨l.val, by omega⟩)
    = gate (m ((c.tc : Thread nD τ).loc main_arg3) (ix3 b t ⟨12 * h.val + l.val, by omega⟩)) := by
  unfold V; after_reads_at
  exact congrArg gate (congrArg (m ((c.tc : Thread nD τ).loc main_arg3)) (ext3 rfl rfl (show h.val * 12 + l.val = 12 * h.val + l.val by omega)))

/-- The blocks of each array at a grid point: batch `t / 8`, rows from `512 * (t % 8)` on, and for the keys and values before them the block before. -/
theorem idx : ∀ t : Fin cfg0.N, win0_0.index t = ![0, t.val / 8, t.val % 8, 0] ∧ win0_1.index t = ![t.val / 8, 0, t.val % 8 - 1, 0]
    ∧ win0_2.index t = ![t.val / 8, 0, t.val % 8, 0] ∧ win0_3.index t = ![t.val / 8, 0, t.val % 8 - 1, 0]
    ∧ win0_4.index t = ![t.val / 8, 0, t.val % 8, 0] ∧ win0_5.index t = ![0, t.val / 8, t.val % 8, 0] ∧ win0_6.index t = ![t.val / 8, 0, t.val % 8, 0] :=
  (by decide +kernel : ∀ t : Fin grid0.N, win0_0.index t = ![0, t.val / 8, t.val % 8, 0] ∧ win0_1.index t = ![t.val / 8, 0, t.val % 8 - 1, 0]
    ∧ win0_2.index t = ![t.val / 8, 0, t.val % 8, 0] ∧ win0_3.index t = ![t.val / 8, 0, t.val % 8 - 1, 0]
    ∧ win0_4.index t = ![t.val / 8, 0, t.val % 8, 0] ∧ win0_5.index t = ![0, t.val / 8, t.val % 8, 0] ∧ win0_6.index t = ![t.val / 8, 0, t.val % 8, 0])

/-- Every entry of the output array. -/
def result (c : Dev nD) : Buf (Elt Ideal) ((c.tc : Thread nD τ).loc main_v15) := fun (i : S8x1x4096x512.Idx) =>
  have h3 : (i 3).val < 512 := (i 3).isLt
  windowed (fun d => m ((c.tc : Thread nD τ).loc main_arg0) (ix3 (i 0) (i 2) ⟨64 * ((i 3).val / 64) + d.val, by omega⟩))
    (fun u d => m ((c.tc : Thread nD τ).loc main_arg1) (ix3 (i 0) u ⟨64 * ((i 3).val / 256) + d.val, by omega⟩))
    (fun u => m ((c.tc : Thread nD τ).loc main_arg2) (ix3 (i 0) u ⟨64 * ((i 3).val / 256) + (i 3).val % 64, by omega⟩))
    (gate (m ((c.tc : Thread nD τ).loc main_arg3) (ix3 (i 0) (i 2) ⟨3 * ((i 3).val / 64) + 2, by omega⟩))) (i 2).val

section Tile
variable (c : Dev nD) (t : Fin cfg0.N)

/-- A query a grid point reads. -/
theorem blk_q (e : Fin 8) (p : Fin 512) (d : Fin 64) (h : t.val / 8 < 8) : iblk m c 0 t (ix4 e 0 p d)
    = m ((c.tc : Thread nD τ).loc main_arg0) (ix3 ⟨t.val / 8, h⟩ ⟨512 * (t.val % 8) + p.val, by omega⟩ ⟨64 * e.val + d.val, by omega⟩) :=
  (show _ = V m c main_v1 (ix4 e ⟨t.val / 8, h⟩ ⟨512 * (t.val % 8) + p.val, by omega⟩ d) by blk_ext [iblk, idx t]).trans (V_q m c _ _ _ _)

/-- A key of the block before. -/
theorem blk_kp (p : Fin 512) (l : Fin 128) (h : t.val / 8 < 8) : iblk m c 1 t (ix4 0 0 p l)
    = m ((c.tc : Thread nD τ).loc main_arg1) (ix3 ⟨t.val / 8, h⟩ ⟨512 * (t.val % 8 - 1) + p.val, by omega⟩ l) :=
  (show _ = V m c main_v12 (ix4 ⟨t.val / 8, h⟩ 0 ⟨512 * (t.val % 8 - 1) + p.val, by omega⟩ l) by blk_ext [iblk, idx t]).trans (V_k m c _ _ _)

/-- A key of the point's own block. -/
theorem blk_k (p : Fin 512) (l : Fin 128) (h : t.val / 8 < 8) : iblk m c 2 t (ix4 0 0 p l)
    = m ((c.tc : Thread nD τ).loc main_arg1) (ix3 ⟨t.val / 8, h⟩ ⟨512 * (t.val % 8) + p.val, by omega⟩ l) :=
  (show _ = V m c main_v12 (ix4 ⟨t.val / 8, h⟩ 0 ⟨512 * (t.val % 8) + p.val, by omega⟩ l) by blk_ext [iblk, idx t]).trans (V_k m c _ _ _)

/-- A value of the block before. -/
theorem blk_vp (p : Fin 512) (l : Fin 128) (h : t.val / 8 < 8) : iblk m c 3 t (ix4 0 0 p l)
    = m ((c.tc : Thread nD τ).loc main_arg2) (ix3 ⟨t.val / 8, h⟩ ⟨512 * (t.val % 8 - 1) + p.val, by omega⟩ l) :=
  (show _ = V m c main_v14 (ix4 ⟨t.val / 8, h⟩ 0 ⟨512 * (t.val % 8 - 1) + p.val, by omega⟩ l) by blk_ext [iblk, idx t]).trans (V_v m c _ _ _)

/-- A value of the point's own block. -/
theorem blk_v (p : Fin 512) (l : Fin 128) (h : t.val / 8 < 8) : iblk m c 4 t (ix4 0 0 p l)
    = m ((c.tc : Thread nD τ).loc main_arg2) (ix3 ⟨t.val / 8, h⟩ ⟨512 * (t.val % 8) + p.val, by omega⟩ l) :=
  (show _ = V m c main_v14 (ix4 ⟨t.val / 8, h⟩ 0 ⟨512 * (t.val % 8) + p.val, by omega⟩ l) by blk_ext [iblk, idx t]).trans (V_v m c _ _ _)

/-- A gate a grid point reads. -/
theorem blk_g (e : Fin 2) (p : Fin 512) (l : Fin 12) (h : t.val / 8 < 8) : iblk m c 5 t (ix4 e 0 p ⟨l.val, by omega⟩)
    = gate (m ((c.tc : Thread nD τ).loc main_arg3) (ix3 ⟨t.val / 8, h⟩ ⟨512 * (t.val % 8) + p.val, by omega⟩ ⟨12 * e.val + l.val, by omega⟩)) :=
  (show _ = V m c main_v10 (ix4 e ⟨t.val / 8, h⟩ ⟨512 * (t.val % 8) + p.val, by omega⟩ ⟨l.val, by omega⟩) by blk_ext [iblk, idx t]).trans (V_g m c _ _ _ _)

/-- A place of a grid point's output block, in the array. -/
theorem place (y : S1x1x512x512.Idx) (h : t.val / 8 < 8) : (win0_6.blk t).view.emb y
    = (ix4 ⟨t.val / 8, h⟩ 0 ⟨512 * (t.val % 8) + (y 2).val, by have : (y 2).val < 512 := (y 2).isLt; omega⟩ (y 3) : S8x1x4096x512.Idx) := by
  have h0 : (y 0).val < 1 := (y 0).isLt
  have h1 : (y 1).val < 1 := (y 1).isLt
  have h2 : (y 2).val < 512 := (y 2).isLt
  refine ext4 ?_ ?_ ?_ ?_
  · blk_simp [idx t]
  · blk_simp [idx t]
    show _ = 0
    omega
  · blk_simp [idx t]
    show _ = 512 * (t.val % 8) + (y 2).val
    omega
  · blk_simp [idx t]

/-- What a grid point leaves in its block is that block of the result, whatever the case. -/
theorem tile (lo : ℕ → ℕ) (hlo : ∀ j x, lo j ≤ x ↔ 512 ≤ 512 * (t.val % 8) + 128 * j + x) (y : S1x1x512x512.Idx) :
    winV lo (iblk m c 0 t) (iblk m c 1 t) (iblk m c 2 t) (iblk m c 3 t) (iblk m c 4 t) (iblk m c 5 t) y = result m c ((win0_6.blk t).view.emb y) := by
  have h2 : (y 2).val < 512 := (y 2).isLt
  have h3 : (y 3).val < 512 := (y 3).isLt
  have ht : t.val / 8 < 8 := by
    have : t.val < 64 := t.isLt
    omega
  rw [place t y ht]
  unfold winV result
  have eq (d : Fin 64) := blk_q m c t ⟨(y 3).val / 64, by omega⟩ (y 2) d ht
  have eg := blk_g m c t ⟨(y 3).val / 256, by omega⟩ (y 2) ⟨3 * ((y 3).val / 64 % 4) + 2, by omega⟩ ht
  have hg : 12 * ((y 3).val / 256) + (3 * ((y 3).val / 64 % 4) + 2) = 3 * ((y 3).val / 64) + 2 := by omega
  simp only [eq, eg, hg]
  have rows (P C : Vec Ideal S1x1x512x128 .bf16) (A : S8x4096x128.Idx → EReal)
      (hP : ∀ (p : Fin 512) (l : Fin 128), P (ix4 0 0 p l) = A (ix3 ⟨t.val / 8, ht⟩ ⟨512 * (t.val % 8 - 1) + p.val, by omega⟩ l))
      (hC : ∀ (p : Fin 512) (l : Fin 128), C (ix4 0 0 p l) = A (ix3 ⟨t.val / 8, ht⟩ ⟨512 * (t.val % 8) + p.val, by omega⟩ l))
      (x : Fin 640) (u : Fin 4096) (e : u.val + 512 = 512 * (t.val % 8) + 128 * ((y 2).val / 128) + x.val) (l : Fin 128) :
      cat P C ⟨128 * ((y 2).val / 128) + x.val, by omega⟩ l = A (ix3 ⟨t.val / 8, ht⟩ u l) := by
    by_cases h : 128 * ((y 2).val / 128) + x.val < 512
    · rw [cat_before P C _ l h, hP]
      exact congrArg A (ext3 rfl (show 512 * (t.val % 8 - 1) + (128 * ((y 2).val / 128) + x.val) = u.val by omega) rfl)
    · rw [cat_own P C _ l h, hC]
      exact congrArg A (ext3 rfl (show 512 * (t.val % 8) + (128 * ((y 2).val / 128) + x.val - 512) = u.val by omega) rfl)
  exact attend_eq (512 * (t.val % 8) + 128 * ((y 2).val / 128)) ((y 2).val % 128) (512 * (t.val % 8) + (y 2).val) (by omega) (by omega) (by omega)
    _ _ _ _ _ _ _ (fun x => hlo _ x) (fun x u e d => rows _ _ _ (blk_kp m c t · · ht) (blk_k m c t · · ht) x u e _)
    (fun x u e => rows _ _ _ (blk_vp m c t · · ht) (blk_v m c t · · ht) x u e _)

end Tile

/-- The output array at the end of the run. -/
theorem final (c : Dev nD) : (dats m 0 c).arrAt 6 cfg0.N = result m c := by
  refine (dats m 0 c).arrAt_eq_of_covers 6 _ (by decide +kernel) fun t hf y => ?_
  blk_simp
  rw [after0_6]
  by_cases h : t.val % 8 = 0
  · rw [outsAt0_A m c t h (by omega), outA]
    exact tile m c t _ (fun j x => by omega) y
  · rw [outsAt0_B m c t h (by omega), outB]
    exact tile m c t _ (fun j x => by omega) y

end Cert.KernelIdeal.Win
end
-- ==== Proof.Ref1.lean ====
module

public import proofs.«01_k».proof.Proof.Gen.ReferenceIdeal.Read
public import proofs.«01_k».proof.Proof.Places
public import proofs.«01_k».proof.Proof.WinSpec
public import Idealize.ShloMosaic.Lib.WordCmp

/-! The reference of the window branch, read entry by entry. -/

@[expose] public section
set_option maxRecDepth 16384
noncomputable section
namespace Cert.ReferenceIdeal.Window
open Idealize.ShloMosaic Idealize.ShloMosaic.TcCoe Idealize.ShloMosaic.Tactic Cert.ReferenceIdeal Cert.ReferenceIdeal.Read Cert.Places Cert.Window
  Idealize.ShloMosaic.WordCmp

/-- How far a key lies behind a query, as a signed word. -/
theorem back_bits (t u : ℕ) (ht : t < 4096) (hu : u < 4096) :
    (IntOp.subi (BitVec.ofNat 32 t) (BitVec.ofNat 32 u)).toInt = (t : ℤ) - u := by
  show (BitVec.ofNat 32 t - BitVec.ofNat 32 u).toInt = _
  rw [BitVec.toInt_sub, toInt_ofNat_of_lt (by omega), toInt_ofNat_of_lt (by omega)]
  simp only [Int.bmod_def]
  norm_num
  omega

/-- The mask is set where the query sees the key. -/
theorem mask_eq (t u : Fin 4096) : val_main_v20 (F := Ideal) (ix2 t u) = BitVec.ofBool (decide (Sees t.val u.val)) := by
  have ht := t.isLt
  have hu := u.isLt
  simp only [val_main_v20_apply, val_main_v19_apply, val_main_v18_apply, val_main_c_0_apply, val_main_v17_apply, val_main_v16_apply,
    val_main_c_apply, val_main_v15_apply, val_main_v14_apply, val_main_v13_apply, val_main_v12_apply, val_main_v11_apply,
    val_main_v10_apply, val_main_v9_apply]
  show IntOp.andi (IntOp.cmpi .sge (IntOp.subi (BitVec.ofNat 32 t.val) (BitVec.ofNat 32 u.val)) 0#32)
    (IntOp.cmpi .sle (IntOp.subi (BitVec.ofNat 32 t.val) (BitVec.ofNat 32 u.val)) 511#32) = _
  simp only [cmpi_sge_eq, cmpi_sle_eq, back_bits t.val u.val ht hu, andi_ofBool]
  congr 1
  have h0 : (0#32).toInt = 0 := rfl
  have h5 : (511#32).toInt = 511 := rfl
  rw [h0, h5, ← Bool.decide_and]
  refine decide_eq_decide.mpr ?_
  unfold Sees
  omega

/-- The word of the float one eighth reads as one eighth. -/
theorem eighth_bits : Ideal.ofBits .f32 0x3E000000#32 = ((8⁻¹ : ℝ) : EReal) := by
  simp [Ideal.ofBits, Ideal.ieee, -EReal.coe_mul]; norm_num

/-- The word of minus infinity reads as minus infinity. -/
theorem least_bits : Ideal.ofBits .f32 0xFF800000#32 = ⊥ := by
  simp [Ideal.ofBits, Ideal.ieee]

/-- Choosing by a truth value's bit. -/
theorem select_bit (p : Prop) [Decidable p] (a b : EReal) : Scalar.select (BitVec.ofBool (decide p)) a b = if p then a else b := by
  by_cases h : p <;> simp [h, Scalar.select]

variable (x0 : FVec Ideal S8x4096x512 .f32) (x1 x2 : FVec Ideal S8x4096x128 .f32) (x3 : FVec Ideal S8x4096x24 .f32)

/-- The query of batch `b`, head `4h + g`, token `t`. -/
def q (b : Fin 8) (h : Fin 2) (g : Fin 4) (t : Fin 4096) (d : Fin 64) : EReal :=
  x0 (ix3 b t ⟨64 * (4 * h.val + g.val) + d.val, by omega⟩)

/-- The keys, or the values, of batch `b` and pair `h`. -/
def k (b : Fin 8) (h : Fin 2) (u : Fin 4096) (d : Fin 64) : EReal :=
  x1 (ix3 b u ⟨64 * h.val + d.val, by omega⟩)

section Place
variable (b : Fin 8) (h : Fin 2) (g : Fin 4) (t : Fin 4096)

/-- The re-laid queries at a place. -/
theorem query_eq (d : Fin 64) : val_main_v1 (F := Ideal) x0 (ix5 b h g t d) = q x0 b h g t d := by
  rw [val_main_v1_apply, val_main_v0_apply]
  unfold q
  refine congrArg x0 (ext3 ?_ ?_ ?_)
  · show ((((b.val * 4096 + t.val) * 2 + h.val) * 4 + g.val) * 64 + d.val) / 2097152 = b.val
    omega
  · show ((((b.val * 4096 + t.val) * 2 + h.val) * 4 + g.val) * 64 + d.val) / 512 % 4096 = t.val
    omega
  · show ((((b.val * 4096 + t.val) * 2 + h.val) * 4 + g.val) * 64 + d.val) % 512 = 64 * (4 * h.val + g.val) + d.val
    omega

/-- The re-laid keys at a place. -/
theorem key_eq (u : Fin 4096) (d : Fin 64) : val_main_v3 (F := Ideal) x1 (ix4 b h u d) = k x1 b h u d := by
  rw [val_main_v3_apply, val_main_v2_apply]
  unfold k
  refine congrArg x1 (ext3 ?_ ?_ ?_)
  · show (((b.val * 4096 + u.val) * 2 + h.val) * 64 + d.val) / 524288 = b.val
    omega
  · show (((b.val * 4096 + u.val) * 2 + h.val) * 64 + d.val) / 128 % 4096 = u.val
    omega
  · show (((b.val * 4096 + u.val) * 2 + h.val) * 64 + d.val) % 128 = 64 * h.val + d.val
    omega

/-- The re-laid values at a place. -/
theorem value_eq (u : Fin 4096) (d : Fin 64) : val_main_v5 (F := Ideal) x2 (ix4 b h u d) = k x2 b h u d :=
  key_eq x2 b h u d

/-- The scores, minus infinity where the key is not seen. -/
theorem score_eq (u : Fin 4096) : val_main_v21 (F := Ideal) x0 x1 (ix5 b h g t u) = score (q x0 b h g t) (k x1 b h) t.val u := by
  rw [val_main_v21_apply, val_main_call0_v1_apply, val_main_call0_v2_apply, val_main_call0_v0_apply, val_main_cst_1_apply,
    val_main_v8_apply, val_main_v7_apply, val_main_cst_apply, val_main_v6_apply,
    show idx_main_call0_v1 (ix5 b h g t u) = ix2 t u from ext2 rfl rfl, mask_eq]
  refine (select_bit _ _ _).trans (if_congr Iff.rfl ?_ ?_)
  · refine congrArg₂ (· * ·) (Finset.sum_congr rfl fun d _ => ?_) eighth_bits
    rw [show lidx_main_v6 (ix5 b h g t u) d = ix5 b h g t d from ext5 rfl rfl rfl rfl rfl,
      show ridx_main_v6 (ix5 b h g t u) d = ix4 b h u d from ext4 rfl rfl rfl rfl, query_eq, key_eq]
  · exact least_bits

/-- The greatest score. -/
theorem most_eq : val_main_v22 (F := Ideal) x0 x1 (ix4 b h g t)
    = Finset.fold max ⊥ (score (q x0 b h g t) (k x1 b h) t.val) Finset.univ := by
  have e : (fun u : Fin 4096 => val_main_v21 (F := Ideal) x0 x1 (ix5 b h g t u)) = score (q x0 b h g t) (k x1 b h) t.val :=
    funext fun u => score_eq x0 x1 b h g t u
  rw [← e, ← least_bits]
  unfold val_main_v22
  generalize val_main_v21 (F := Ideal) x0 x1 = y
  pointwise
  rfl

/-- The weights. -/
theorem part_eq (u : Fin 4096) : val_main_v27 (F := Ideal) x0 x1 (ix5 b h g t u) = part (q x0 b h g t) (k x1 b h) t.val u := by
  rw [val_main_v27_apply, val_main_call1_v1_apply, val_main_call1_v2_apply, val_main_call1_v0_apply, val_main_cst_3_apply,
    val_main_v26_apply, val_main_v25_apply, val_main_v24_apply, val_main_v23_apply,
    show idx_main_call1_v1 (ix5 b h g t u) = ix2 t u from ext2 rfl rfl, mask_eq,
    show idx_main_v23 (idx_main_v24 (ix5 b h g t u)) = ix4 b h g t from ext4 rfl rfl rfl rfl, score_eq, most_eq]
  exact (select_bit _ _ _).trans (if_congr Iff.rfl rfl Ideal.ofBits_zero_f32)

/-- The weights' sum. -/
theorem sum_eq : val_main_v28 (F := Ideal) x0 x1 (ix4 b h g t) = ∑ u, part (q x0 b h g t) (k x1 b h) t.val u := by
  rw [val_main_v28_apply, val_main_cst_4_apply]
  refine (congrArg₂ (· + ·) Ideal.ofBits_zero_f32 (Finset.sum_congr rfl fun u _ => ?_)).trans (zero_add _)
  rw [show idx_main_v28 (ix4 b h g t) u = ix5 b h g t u from ext5 rfl rfl rfl rfl rfl, part_eq]

/-- The weights' sum, one where it is not positive. -/
theorem total_eq : val_main_v31 (F := Ideal) x0 x1 (ix4 b h g t) = total (q x0 b h g t) (k x1 b h) t.val := by
  rw [val_main_v31_apply, val_main_v30_apply, val_main_v29_apply, val_main_cst_5_apply, val_main_call2_v1_apply,
    val_main_call2_v0_apply, val_main_cst_6_apply, sum_eq]
  refine (select_bit (Ideal.ofBits .f32 0x00000000#32 < _) _ _).trans ?_
  exact if_congr (by rw [Ideal.ofBits_zero_f32]) rfl one_bits

/-- The gate. -/
theorem gate_eq : val_main_v45 (F := Ideal) x3 (ix5 b h g t 0) = gate (x3 (ix3 b t ⟨3 * (4 * h.val + g.val) + 2, by omega⟩)) := by
  rw [val_main_v45_apply, val_main_v44_apply, val_main_v43_apply, val_main_v42_apply, val_main_v41_apply, val_main_v40_apply,
    val_main_cst_8_apply, val_main_v39_apply, val_main_v38_apply, val_main_cst_7_apply, val_main_v37_apply, val_main_v36_apply]
  rw [show idx_main_v45 (ix5 b h g t 0) = ix5 b h g t 2 from ext5 rfl rfl rfl rfl rfl,
    show idx_main_v44 (ix5 b h g t 2) = ix4 b ⟨4 * h.val + g.val, by omega⟩ t 2 from ext4
      (show ((((b.val * 2 + h.val) * 4 + g.val) * 4096 + t.val) * 3 + 2) / 98304 = b.val by omega)
      (show ((((b.val * 2 + h.val) * 4 + g.val) * 4096 + t.val) * 3 + 2) / 12288 % 8 = 4 * h.val + g.val by omega)
      (show ((((b.val * 2 + h.val) * 4 + g.val) * 4096 + t.val) * 3 + 2) / 3 % 4096 = t.val by omega)
      (show ((((b.val * 2 + h.val) * 4 + g.val) * 4096 + t.val) * 3 + 2) % 3 = 2 by omega),
    show idx_main_v43 (ix4 b ⟨4 * h.val + g.val, by omega⟩ t 2) = ix4 b t ⟨4 * h.val + g.val, by omega⟩ 2 from ext4 rfl rfl rfl rfl,
    show idx_main_v42 (ix4 b t ⟨4 * h.val + g.val, by omega⟩ 2) = ix3 b t ⟨3 * (4 * h.val + g.val) + 2, by omega⟩ from ext3
      (show (((b.val * 4096 + t.val) * 8 + (4 * h.val + g.val)) * 3 + 2) / 98304 = b.val by omega)
      (show (((b.val * 4096 + t.val) * 8 + (4 * h.val + g.val)) * 3 + 2) / 24 % 4096 = t.val by omega)
      (show (((b.val * 4096 + t.val) * 8 + (4 * h.val + g.val)) * 3 + 2) % 24 = 3 * (4 * h.val + g.val) + 2 by omega)]
  exact congrArg₂ Ideal.div one_bits (congrArg (· + _) one_bits)

/-- The gated branch, head by head. -/
theorem head_eq (d : Fin 64) : val_main_v47 (F := Ideal) x0 x1 x2 x3 (ix5 b h g t d)
    = windowed (q x0 b h g t) (k x1 b h) (fun u => k x2 b h u d) (gate (x3 (ix3 b t ⟨3 * (4 * h.val + g.val) + 2, by omega⟩))) t.val := by
  rw [val_main_v47_apply, val_main_v46_apply, val_main_v35_apply, val_main_v34_apply, val_main_v33_apply, val_main_v32_apply,
    show idx_main_v46 (ix5 b h g t d) = ix5 b h g t 0 from ext5 rfl rfl rfl rfl rfl,
    show idx_main_v33 (idx_main_v34 (ix5 b h g t d)) = ix4 b h g t from ext4 rfl rfl rfl rfl, total_eq, gate_eq]
  refine congrArg (_ * ·) (congrArg (Ideal.div · _) (Finset.sum_congr rfl fun u _ => congrArg₂ (· * ·) ?_ ?_))
  · rw [show lidx_main_v32 (ix5 b h g t d) u = ix5 b h g t u from ext5 rfl rfl rfl rfl rfl, part_eq]
  · rw [show ridx_main_v32 (ix5 b h g t d) u = ix4 b h u d from ext4 rfl rfl rfl rfl, value_eq]

end Place

/-- An entry of the reference's result. -/
theorem val_eq (b : Fin 8) (t : Fin 4096) (n : Fin 512) : val_main_v51 (F := Ideal) x0 x1 x2 x3 (ix4 b 0 t n)
    = windowed (fun d => x0 (ix3 b t ⟨64 * (n.val / 64) + d.val, by omega⟩)) (fun u d => x1 (ix3 b u ⟨64 * (n.val / 256) + d.val, by omega⟩))
      (fun u => x2 (ix3 b u ⟨64 * (n.val / 256) + n.val % 64, by omega⟩)) (gate (x3 (ix3 b t ⟨3 * (n.val / 64) + 2, by omega⟩))) t.val := by
  rw [val_main_v51_apply, val_main_v50_apply, val_main_v49_apply, val_main_v48_apply,
    show idx_main_v50 (ix4 b 0 t n) = ix4 b t ⟨n.val / 64, by omega⟩ ⟨n.val % 64, by omega⟩ from ext4
      (show (((b.val * 1 + 0) * 4096 + t.val) * 512 + n.val) / 2097152 = b.val by omega)
      (show (((b.val * 1 + 0) * 4096 + t.val) * 512 + n.val) / 512 % 4096 = t.val by omega)
      (show (((b.val * 1 + 0) * 4096 + t.val) * 512 + n.val) / 64 % 8 = n.val / 64 by omega)
      (show (((b.val * 1 + 0) * 4096 + t.val) * 512 + n.val) % 64 = n.val % 64 by omega),
    show idx_main_v49 (ix4 b t ⟨n.val / 64, by omega⟩ ⟨n.val % 64, by omega⟩) = ix4 b ⟨n.val / 64, by omega⟩ t ⟨n.val % 64, by omega⟩ from
      ext4 rfl rfl rfl rfl,
    show idx_main_v48 (ix4 b ⟨n.val / 64, by omega⟩ t ⟨n.val % 64, by omega⟩)
        = ix5 b ⟨n.val / 256, by omega⟩ ⟨n.val / 64 % 4, by omega⟩ t ⟨n.val % 64, by omega⟩ from ext5
      (show (((b.val * 8 + n.val / 64) * 4096 + t.val) * 64 + n.val % 64) / 2097152 = b.val by omega)
      (show (((b.val * 8 + n.val / 64) * 4096 + t.val) * 64 + n.val % 64) / 1048576 % 2 = n.val / 256 by
        have e : (((b.val * 8 + n.val / 64) * 4096 + t.val) * 64 + n.val % 64) / 1048576 = 2 * b.val + n.val / 256 := by
          have hr : 4 * (n.val / 256) + n.val / 64 % 4 = n.val / 64 := by omega
          rw [← hr]
          omega
        omega)
      (show (((b.val * 8 + n.val / 64) * 4096 + t.val) * 64 + n.val % 64) / 262144 % 4 = n.val / 64 % 4 by omega)
      (show (((b.val * 8 + n.val / 64) * 4096 + t.val) * 64 + n.val % 64) / 64 % 4096 = t.val by omega)
      (show (((b.val * 8 + n.val / 64) * 4096 + t.val) * 64 + n.val % 64) % 64 = n.val % 64 by omega)]
  refine (head_eq x0 x1 x2 x3 b _ _ t _).trans ?_
  have e : 4 * (n.val / 256) + n.val / 64 % 4 = n.val / 64 := by omega
  simp only [e]
  unfold q k
  simp only [e]

end Cert.ReferenceIdeal.Window
end
-- ==== Proof.Claim1.lean ====
module

public import proofs.«01_k».proof.Defs
public import proofs.«01_k».proof.Proof.Arr1
public import proofs.«01_k».proof.Proof.Ref1

@[expose] public section
set_option maxRecDepth 16384
noncomputable section
namespace Cert.Claim1
open Idealize.ShloMosaic Idealize.ShloMosaic.TcCoe Idealize.SL.Sem Cert.Places Cert.ReferenceIdeal

/-- The window branch's kernel and its reference compute the same array, over the extended reals. -/
theorem algebraic : Cert.algebraic_KernelIdeal_ReferenceIdeal := by
  intro m g m' g' _ hargs
  refine ⟨fun c => Cert.KernelIdeal.Win.result m c, ?_, ?_⟩
  · exact (θ_run _ _ _).mono (fun r h c => ⟨(h c).1.trans (Cert.KernelIdeal.Win.final m c), (h c).2⟩)
      (Cert.KernelIdeal.Value.run_blocks m g)
  · refine (θ_run _ _ _).mono (fun r h c => ⟨(h c).1.trans ((Cert.ReferenceIdeal.Read.val_main_v51_eq ..).trans ?_), (h c).2⟩)
      (Cert.ReferenceIdeal.Value.run m' g')
    obtain ⟨h0, h1, h2, h3⟩ := hargs c
    rw [h0, h1, h2, h3]
    funext i
    have e : (i : S8x1x4096x512.Idx) = ix4 (i 0) 0 (i 2) (i 3) := ext4 rfl (by have : (i 1).val < 1 := (i 1).isLt; show (i 1).val = 0; omega) rfl rfl
    exact (congrArg _ e).trans (Cert.ReferenceIdeal.Window.val_eq _ _ _ _ (i 0) (i 2) (i 3))

end Cert.Claim1
end
-- ==== Proof.FfnCore.lean ====
module

public import proofs.«01_k».proof.Proof.Spec
public import proofs.«01_k».proof.Proof.Cover

@[expose] public section
set_option maxRecDepth 16384
noncomputable section
namespace Cert.FfnCore
open Idealize.ShloMosaic Cert.Spec Cert.Cover

/-- Contents of a two-axis array of extended reals. -/
abbrev Mat (M N : ℕ) := (⟨2, ![M, N]⟩ : Shape).Idx → EReal

/-- Contents of a weight block: a two-axis array under two axes of size one. -/
abbrev Blk (M N : ℕ) := (⟨4, ![1, 1, M, N]⟩ : Shape).Idx → EReal

/-- Every row of a sub-block normalised. -/
def normedV (x : Mat 512 1024) (g : Mat 1 1024) : Mat 512 1024 := fun j =>
  normed (fun k => x (ix2 (j 0) k)) (fun k => g (ix2 0 k)) (j 1)

/-- A chunk of 256 hidden units of a sub-block, from the normalised rows and the two weight chunks. -/
def chunkV (a : Mat 512 1024) (v w : Blk 1024 256) : Mat 512 256 := fun j =>
  gated (∑ k, a (ix2 (j 0) k) * v (ix4 0 0 k (j 1))) (∑ k, a (ix2 (j 0) k) * w (ix4 0 0 k (j 1)))

/-- A sub-block plus half of the product of its hidden units with the second weights. -/
def finalV (a : Mat 512 1024) (h : Mat 512 2816) (w : Blk 2816 1024) : Mat 512 1024 := fun j =>
  a j + Ideal.ofBits FTy.f32 1056964608#32 * ∑ f, h (ix2 (j 0) f) * w (ix4 0 0 f (j 1))

/-- All hidden units of a block of `M` rows. -/
def act {M : ℕ} (x : Mat M 1024) (g : Mat 1 1024) (wi : Blk 1024 5632) : Mat M 2816 := fun y =>
  hiddenUnit (normed (fun k => x (ix2 (y 0) k)) (fun k => g (ix2 0 k))) (fun k n => wi (ix4 0 0 k n)) (y 1)

/-- The feed-forward map of every row of a block. -/
def ffnV {M : ℕ} (x : Mat M 1024) (g : Mat 1 1024) (wi : Blk 1024 5632) (wo : Blk 2816 1024) : Mat M 1024 := fun y =>
  ffn (fun k => x (ix2 (y 0) k)) (fun k => g (ix2 0 k)) (fun k n => wi (ix4 0 0 k n)) (fun f c => wo (ix4 0 0 f c)) (y 1)

/-- Rows from `R` on of a block, as a sub-block. -/
def RowsFrom {M : ℕ} (R : ℕ) (x : Mat M 1024) (Y : Mat 512 1024) : Prop :=
  ∀ (p : Fin 512) (k : Fin 1024) (h : R + p.val < M), Y (ix2 p k) = x (ix2 ⟨R + p.val, h⟩ k)

/-- A chunk at an index, its weights being columns from `o` and from `2816 + o`. -/
theorem chunkV_at {M : ℕ} (x : Mat M 1024) (g : Mat 1 1024) (wi : Blk 1024 5632) (R o : ℕ)
    (Y : Mat 512 1024) (hY : RowsFrom R x Y) (V W : Blk 1024 256) (p : Fin 512) (q : Fin 256) (h0 : R + p.val < M)
    (h1 : o + q.val < 2816) (hV : ∀ k, V (ix4 0 0 k q) = wi (ix4 0 0 k ⟨o + q.val, by omega⟩))
    (hW : ∀ k, W (ix4 0 0 k q) = wi (ix4 0 0 k ⟨2816 + (o + q.val), by omega⟩)) :
    chunkV (normedV Y g) V W (ix2 p q) = act x g wi (ix2 ⟨R + p.val, h0⟩ ⟨o + q.val, h1⟩) := by
  unfold chunkV act hiddenUnit normedV
  simp only [hV, hW, fun k => hY p k h0, ix2_0, ix2_1]

/-- A store of one chunk of hidden units, at rows from `R` and columns from `o`, writes what `act` has there;
    so do the stores before it, by hypothesis. -/
theorem pieces_chunk {M : ℕ} (x : Mat M 1024) (g : Mat 1 1024) (wi : Blk 1024 5632) (R o u : ℕ) (hu : u = 2816 + o)
    (Y : Mat 512 1024) (hY : RowsFrom R x Y) (inbg) (inbu) (inb)
    (L : List (View.Piece (Elt Ideal) (⟨2, ![M, 2816]⟩ : Shape) .bf16)) (hL : View.PiecesOf (act x g wi) L) :
    View.PiecesOf (act x g wi) ((⟨Rect.unit (s := ⟨2, ![M, 2816]⟩) ![R, o] ![512, 256] inb,
      chunkV (normedV Y g)
        (View.ld (Val := Elt Ideal) (e' := .bf16) wi (Rect.unit (s := ⟨4, ![1, 1, 1024, 5632]⟩) ![0, 0, 0, o] ![1, 1, 1024, 256] inbg))
        (View.ld (Val := Elt Ideal) (e' := .bf16) wi (Rect.unit (s := ⟨4, ![1, 1, 1024, 5632]⟩) ![0, 0, 0, u] ![1, 1, 1024, 256] inbu))⟩
        : View.Piece (Elt Ideal) (⟨2, ![M, 2816]⟩ : Shape) .bf16) :: L) := by
  subst hu
  refine ⟨fun (j : (⟨2, ![512, 256]⟩ : Shape).Idx) => ?_, hL⟩
  obtain ⟨p, q, rfl⟩ : ∃ (p : Fin 512) (q : Fin 256), j = ix2 p q := ⟨j 0, j 1, eq_ix2 j⟩
  have h0 : R + p.val < M := by
    have h := inb 0
    have : R + 512 ≤ M := h
    omega
  have h1 : o + q.val < 2816 := by
    have h := inb 1
    have : o + 256 ≤ 2816 := h
    omega
  have e : (Rect.unit (s := ⟨2, ![M, 2816]⟩) ![R, o] ![512, 256] inb).emb (ix2 p q) = ix2 ⟨R + p.val, h0⟩ ⟨o + q.val, h1⟩ :=
    funext fun a => Fin.ext (by match a with
      | ⟨0, _⟩ => show R + 1 * p.val = R + p.val; omega
      | ⟨1, _⟩ => show o + 1 * q.val = o + q.val; omega)
  have e2 : ∀ k, View.ld (Val := Elt Ideal) (e' := .bf16) wi (Rect.unit (s := ⟨4, ![1, 1, 1024, 5632]⟩) ![0, 0, 0, o] ![1, 1, 1024, 256] inbg)
        (ix4 0 0 k q) = wi (ix4 0 0 k ⟨o + q.val, by omega⟩) := fun k =>
    congrArg wi (funext fun a => Fin.ext (by match a with
      | ⟨0, _⟩ => rfl
      | ⟨1, _⟩ => rfl
      | ⟨2, _⟩ => show 0 + 1 * k.val = k.val; omega
      | ⟨3, _⟩ => show o + 1 * q.val = o + q.val; omega))
  have e3 : ∀ k, View.ld (Val := Elt Ideal) (e' := .bf16) wi (Rect.unit (s := ⟨4, ![1, 1, 1024, 5632]⟩) ![0, 0, 0, 2816 + o] ![1, 1, 1024, 256] inbu)
        (ix4 0 0 k q) = wi (ix4 0 0 k ⟨2816 + (o + q.val), by omega⟩) := fun k =>
    congrArg wi (funext fun a => Fin.ext (by match a with
      | ⟨0, _⟩ => rfl
      | ⟨1, _⟩ => rfl
      | ⟨2, _⟩ => show 0 + 1 * k.val = k.val; omega
      | ⟨3, _⟩ => show 2816 + o + 1 * q.val = 2816 + (o + q.val); omega))
  exact (chunkV_at x g wi R o Y hY _ _ p q h0 h1 e2 e3).trans (congrArg (act x g wi) e.symm)

/-- The last store of a sub-block whose hidden units are those of `act` writes the feed-forward map there. -/
theorem final_piece {M : ℕ} (x : Mat M 1024) (g : Mat 1 1024) (wi : Blk 1024 5632) (wo : Blk 2816 1024) (R : ℕ)
    (Y : Mat 512 1024) (hY : RowsFrom R x Y) (A : Mat 512 2816)
    (hA : ∀ (p : Fin 512) (f : Fin 2816) (h : R + p.val < M), A (ix2 p f) = act x g wi (ix2 ⟨R + p.val, h⟩ f))
    (inb) (j : (⟨2, ![512, 1024]⟩ : Shape).Idx) :
    finalV Y A wo j = ffnV x g wi wo ((Rect.unit (s := ⟨2, ![M, 1024]⟩) ![R, 0] ![512, 1024] inb).emb j) := by
  obtain ⟨p, c, rfl⟩ : ∃ (p : Fin 512) (c : Fin 1024), j = ix2 p c := ⟨j 0, j 1, eq_ix2 j⟩
  have h0 : R + p.val < M := by
    have h := inb 0
    have : R + 512 ≤ M := h
    omega
  have e : (Rect.unit (s := ⟨2, ![M, 1024]⟩) ![R, 0] ![512, 1024] inb).emb (ix2 p c) = ix2 ⟨R + p.val, h0⟩ c :=
    funext fun a => Fin.ext (by match a with
      | ⟨0, _⟩ => show R + 1 * p.val = R + p.val; omega
      | ⟨1, _⟩ => show 0 + 1 * c.val = c.val; omega)
  rw [e]
  show Y (ix2 p c) + _ * ∑ f, A (ix2 p f) * wo (ix4 0 0 f c) = _
  simp only [hY p c h0, fun f => hA p f h0]
  rfl

/-- Loads of rows from `R` on are those rows. -/
theorem rowsFrom_ld {M : ℕ} (x : Mat M 1024) (R : ℕ) (inb) :
    RowsFrom R x (View.ld (Val := Elt Ideal) (e' := .f32) x (Rect.unit (s := ⟨2, ![M, 1024]⟩) ![R, 0] ![512, 1024] inb)) :=
  fun p k h => congrArg x (funext fun a => Fin.ext (by match a with
    | ⟨0, _⟩ => show R + 1 * p.val = R + p.val; omega
    | ⟨1, _⟩ => show 0 + 1 * k.val = k.val; omega))

/-- A block of 512 rows is its own sub-block from row 0. -/
theorem rowsFrom_self (x : Mat 512 1024) : RowsFrom 0 x x :=
  fun p k h => congrArg x (funext fun a => Fin.ext (by match a with
    | ⟨0, _⟩ => show p.val = 0 + p.val; omega
    | ⟨1, _⟩ => rfl))

/-- Hidden units read back at rows from `R` on, after stores that write `act` and cover those rows. -/
theorem act_back {M : ℕ} (x : Mat M 1024) (g : Mat 1 1024) (wi : Blk 1024 5632) (R : ℕ)
    {sig : RefSig} {κ : Kind} {sp : Space} (v : View sig κ sp (⟨2, ![M, 2816]⟩ : Shape) .bf16)
    (L : List (View.Piece (Elt Ideal) (⟨2, ![M, 2816]⟩ : Shape) .bf16)) (hL : View.PiecesOf (act x g wi) L) (inb)
    (hcov : ∀ y : (⟨2, ![M, 2816]⟩ : Shape).Idx, R ≤ (y 0).val ∧ (y 0).val < R + 512 → (y 1).val < 2816 → ∃ q ∈ L, y ∈ q.1.set)
    (p : Fin 512) (f : Fin 2816) (h : R + p.val < M) :
    v.readCov L (Rect.unit (s := ⟨2, ![M, 2816]⟩) ![R, 0] ![512, 2816] inb).toLoadRect (ix2 p f)
      = act x g wi (ix2 ⟨R + p.val, h⟩ f) := by
  have e : (Rect.unit (s := ⟨2, ![M, 2816]⟩) ![R, 0] ![512, 2816] inb).toLoadRect.idx (ix2 p f) = ix2 ⟨R + p.val, h⟩ f :=
    funext fun a => Fin.ext (by match a with
      | ⟨0, _⟩ => show R + 1 * p.val = R + p.val; omega
      | ⟨1, _⟩ => show 0 + 1 * f.val = f.val; omega)
  rw [View.readCov_eq_canon']
  show View.canon L ((Rect.unit (s := ⟨2, ![M, 2816]⟩) ![R, 0] ![512, 2816] inb).toLoadRect.idx (ix2 p f)) = _
  rw [e]
  exact View.canon_apply_of_pieces (act x g wi) L hL.mem _
    (hcov (ix2 ⟨R + p.val, h⟩ f) ⟨Nat.le_add_right _ _, Nat.add_lt_add_left p.isLt R⟩ f.isLt)

/-- A block's last store at once, when the block is one sub-block. -/
theorem final_whole (x : Mat 512 1024) (g : Mat 1 1024) (wi : Blk 1024 5632) (wo : Blk 2816 1024) (A : Mat 512 2816)
    (hA : ∀ (p : Fin 512) (f : Fin 2816) (h : 0 + p.val < 512), A (ix2 p f) = act x g wi (ix2 ⟨0 + p.val, h⟩ f)) :
    finalV x A wo = ffnV x g wi wo := by
  funext j
  refine (final_piece x g wi wo 0 x (rowsFrom_self x) A hA (fun a => by match a with | ⟨0, _⟩ => exact le_refl 512 | ⟨1, _⟩ => exact le_refl 1024) j).trans
    (congrArg _ (funext fun a => Fin.ext ?_))
  match a with
  | ⟨0, _⟩ => show 0 + 1 * (j 0).val = (j 0).val; omega
  | ⟨1, _⟩ => show 0 + 1 * (j 1).val = (j 1).val; omega

end Cert.FfnCore
end
-- ==== Proof.Ffn2.lean ====
module

public import proofs.«01_k».proof.Proof.Gen.Kernel2Ideal.Value
public import proofs.«01_k».proof.Proof.FfnCore

@[expose] public section
set_option maxRecDepth 16384
noncomputable section
namespace Cert.Kernel2Ideal.Ffn
open Idealize.ShloMosaic Idealize.ShloMosaic.TcCoe Idealize.ShloMosaic.Tactic Cert.Kernel2Ideal Cert.Kernel2Ideal.Gen Cert.Spec Cert.Cover Cert.FfnCore

/-- The kernel's normalised rows. -/
theorem rms_eq (v0 : Vec Ideal S512x1024 .f32) (v2 : Vec Ideal S1x1024 .f32) : k0_pay2 v0 v2 = normedV v0 v2 := by
  funext j
  idx_vars j
  pointwise [k0_pay2]
  simp only [normedV, normed, ix2_0, ix2_1]

/-- The kernel's chunk of hidden units. -/
theorem chunk_eq (a : Vec Ideal S512x1024 .bf16) (v w : Vec Ideal S1x1x1024x256 .bf16) : k0_pay6 a v w = chunkV a v w := by
  funext j
  idx_vars j
  pointwise [k0_pay6]
  simp only [chunkV, gated, ix2_0, ix2_1]

/-- The kernel's last store of a sub-block. -/
theorem final_eq (a : Vec Ideal S512x1024 .f32) (h : Vec Ideal S512x2816 .bf16) (w : Vec Ideal S1x1x2816x1024 .bf16) :
    k0_pay19 a h w = finalV a h w := by
  funext j
  idx_vars j
  pointwise [k0_pay19]
  simp only [finalV, ix2_0, ix2_1]

section Bridges
variable (y : Vec Ideal S512x1024 .f32) (g : Vec Ideal S1x1024 .f32) (a : Vec Ideal S512x1024 .bf16) (v w : Vec Ideal S1x1x1024x256 .bf16)

/-! The program prints the same chunk under many names; each is the one chunk. -/
/-- Chunk 3 of the hidden units, with the norm still in it. -/
theorem b3 : k0_pay3 y g v w = chunkV (normedV y g) v w := (show _ = k0_pay6 (k0_pay2 y g) v w from rfl).trans (by rw [chunk_eq, rms_eq])
/-- Chunk 5 of the hidden units. -/
theorem b5 : k0_pay5 a (k0_pay4 v) w = chunkV a v w := (chunk_eq a v w).symm ▸ rfl
/-- Chunk 9 of the hidden units. -/
theorem b9 : k0_pay9 a (k0_pay7 a v) (k0_pay8 w) = chunkV a v w := (chunk_eq a v w).symm ▸ rfl
/-- Chunk 10 of the hidden units. -/
theorem b10 : k0_pay10 a v w = chunkV a v w := (chunk_eq a v w).symm ▸ rfl
/-- Chunk 12 of the hidden units. -/
theorem b12 : k0_pay12 (k0_pay11 a v w) = chunkV a v w := (chunk_eq a v w).symm ▸ rfl
/-- Chunk 13 of the hidden units. -/
theorem b13 : k0_pay13 a v w = chunkV a v w := (chunk_eq a v w).symm ▸ rfl
/-- Chunk 14 of the hidden units. -/
theorem b14 : k0_pay14 a v w = chunkV a v w := (chunk_eq a v w).symm ▸ rfl
/-- Chunk 15 of the hidden units. -/
theorem b15 : k0_pay15 a v w = chunkV a v w := (chunk_eq a v w).symm ▸ rfl
/-- Chunk 16 of the hidden units. -/
theorem b16 : k0_pay16 a v w = chunkV a v w := (chunk_eq a v w).symm ▸ rfl
/-- Chunk 18 of the hidden units. -/
theorem b18 : k0_pay18 a (k0_pay17 a v) w = chunkV a v w := (chunk_eq a v w).symm ▸ rfl
/-- The normalised rows of the second sub-block. -/
theorem b22 : k0_pay22 y (k0_pay20 g) (k0_pay21 y) = normedV y g := (rms_eq y g).symm ▸ rfl
/-- Chunk 23 of the hidden units, with the norm still in it. -/
theorem b23 : k0_pay23 y (k0_pay20 g) (k0_pay21 y) v w = chunkV (normedV y g) v w := (b3 y g v w).symm ▸ rfl
/-- Chunk 24 of the hidden units, with the norm still in it. -/
theorem b24 : k0_pay24 y (k0_pay20 g) (k0_pay21 y) v w = chunkV (normedV y g) v w := (b3 y g v w).symm ▸ rfl
/-- Chunk 25 of the hidden units. -/
theorem b25 : k0_pay25 a v w = chunkV a v w := (chunk_eq a v w).symm ▸ rfl
/-- Chunk 26 of the hidden units. -/
theorem b26 : k0_pay26 a v w = chunkV a v w := (chunk_eq a v w).symm ▸ rfl
/-- Chunk 28 of the hidden units. -/
theorem b28 : k0_pay28 a (k0_pay27 a v) w = chunkV a v w := (chunk_eq a v w).symm ▸ rfl
/-- Chunk 29 of the hidden units. -/
theorem b29 : k0_pay29 a v w = chunkV a v w := (chunk_eq a v w).symm ▸ rfl
/-- Chunk 31 of the hidden units. -/
theorem b31 : k0_pay31 (k0_pay30 a v w) = chunkV a v w := (chunk_eq a v w).symm ▸ rfl
/-- Chunk 32 of the hidden units. -/
theorem b32 : k0_pay32 a v w = chunkV a v w := (chunk_eq a v w).symm ▸ rfl
/-- Chunk 33 of the hidden units. -/
theorem b33 : k0_pay33 a v w = chunkV a v w := (chunk_eq a v w).symm ▸ rfl
/-- Chunk 34 of the hidden units. -/
theorem b34 : k0_pay34 a v w = chunkV a v w := (chunk_eq a v w).symm ▸ rfl
/-- Chunk 35 of the hidden units. -/
theorem b35 : k0_pay35 a v w = chunkV a v w := (chunk_eq a v w).symm ▸ rfl
/-- The last store of the second sub-block. -/
theorem b1 (h : Vec Ideal S512x2816 .bf16) (w : Vec Ideal S1x1x2816x1024 .bf16) : k0_pay1 (k0_pay36 y) h w = finalV y h w :=
  (final_eq y h w).symm ▸ rfl
end Bridges

set_option maxHeartbeats 1000000 in
/-- What the body leaves in its output block: every row's feed-forward map. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1x1024x5632 .bf16) (harg3 : arg3.IsWhole) (arg4 : Memref sig .tc .vmem S1x1x2816x1024 .bf16) (harg4 : arg4.IsWhole) (arg5 : Memref sig .tc .vmem S1024x1024 .f32) (harg5 : arg5.IsWhole) (arg6 : Memref sig .tc .vmem S1024x2816 .bf16) (harg6 : arg6.IsWhole)
    (x0 : Vec Ideal S1024x1024 .f32) (x1 : Vec Ideal S1x1024 .f32) (x2 : Vec Ideal S1x1x1024x5632 .bf16) (x3 : Vec Ideal S1x1x2816x1024 .bf16) :
    out0_A_4 c i arg1 harg1 arg2 harg2 arg3 harg3 arg4 harg4 arg5 harg5 arg6 harg6 x0 x1 x2 x3 = ffnV x0 x1 x2 x3 := by
  frame_out
  simp only [View.readCov_cons_toLoadRect, b22, rms_eq]
  simp only [b1, b3, b5, b9, b10, b12, b13, b14, b15, b16, b18, b23, b24, b25, b26, b28, b29, b31, b32, b33, b34, b35, chunk_eq, final_eq]
  have hR0 := rowsFrom_ld x0 0 inb_S1024x1024_S512x1024_0_0
  have hR1 := rowsFrom_ld x0 512 inb_S1024x1024_S512x1024_512_0
  funext y
  have hy0 : (y 0).val < 1024 := (y 0).isLt
  have hy1 : (y 1).val < 1024 := (y 1).isLt
  by_cases h : 512 ≤ (y 0).val
  · refine canon_at (Val := Elt Ideal) (e := .f32) _ _ _ (ffnV x0 x1 x2 x3) (fun x => ?_) y ((mem_unit_two _ _ _ _ _ y).mpr (by omega))
    refine final_piece x0 x1 x2 x3 512 _ hR1 _ (act_back x0 x1 x2 512 arg6.view _ ?_ _ ?_) _ x
    · iterate 11 refine pieces_chunk x0 x1 x2 512 _ _ (by norm_num) _ hR1 _ _ _ _ ?_
      iterate 11 refine pieces_chunk x0 x1 x2 0 _ _ (by norm_num) _ hR0 _ _ _ _ ?_
      exact trivial
    · intro y h0 h1
      iterate 11 refine covers_unit _ _ _ _ _ _ _ _ (fun _ => ?_)
      omega
  · refine (canon_skip 512 0 512 1024 _ _ _ y (by omega)).trans ?_
    refine (canon_skip 512 0 512 1024 _ _ _ y (by omega)).trans ?_
    refine canon_at (Val := Elt Ideal) (e := .f32) _ _ _ (ffnV x0 x1 x2 x3) (fun x => ?_) y ((mem_unit_two _ _ _ _ _ y).mpr (by omega))
    refine final_piece x0 x1 x2 x3 0 _ hR0 _ (act_back x0 x1 x2 0 arg6.view _ ?_ _ ?_) _ x
    · iterate 11 refine pieces_chunk x0 x1 x2 0 _ _ (by norm_num) _ hR0 _ _ _ _ ?_
      exact trivial
    · intro y h0 h1
      iterate 11 refine covers_unit _ _ _ _ _ _ _ _ (fun _ => ?_)
      omega

end Cert.Kernel2Ideal.Ffn
end
-- ==== Proof.Arr2.lean ====
module

public import proofs.«01_k».proof.Proof.Ffn2
public import Idealize.ShloMosaic.Lib.StableHlo.ReadAt
public import Idealize.ShloMosaic.Lib.Pipeline.ValueKit.Geometry

@[expose] public section
set_option maxRecDepth 16384
noncomputable section
namespace Cert.Kernel2Ideal.Ffn
open Idealize.ShloMosaic Idealize.ShloMosaic.TcCoe Idealize.ShloMosaic.Tactic Cert.Kernel2Ideal Cert.Kernel2Ideal.Gen Cert.Spec Cert.Cover Cert.FfnCore

variable (m : (ℓ : Loc nD τ sig) → Buf (Elt Ideal) ℓ)

/-- The first weights as the kernel finds them: rounding is the identity here, so they are the argument. -/
theorem V_v0 (c : Dev nD) (i : S2x2x1024x5632.Idx) : V m c main_v0 i = m ((c.tc : Thread nD τ).loc main_arg2) i := by
  unfold V; after_reads_at

/-- The second weights as the kernel finds them: the argument. -/
theorem V_v1 (c : Dev nD) (i : S2x2x2816x1024.Idx) : V m c main_v1 i = m ((c.tc : Thread nD τ).loc main_arg3) i := by
  unfold V; after_reads_at

/-- The gain as the kernel finds it: the argument, laid out as one row. -/
theorem V_v2 (c : Dev nD) (k : Fin 1024) : V m c main_v2 (ix2 0 k) = m ((c.tc : Thread nD τ).loc main_arg1) (ix1 k) := by
  unfold V; after_reads_at

/-- Every row of the output array is the feed-forward block of the same row of the argument. -/
def result (c : Dev nD) : Buf (Elt Ideal) ((c.tc : Thread nD τ).loc main_v3) := fun (i : S32768x1024.Idx) =>
  ffn (fun k => m ((c.tc : Thread nD τ).loc main_arg0) (ix2 (i 0) k)) (fun k => m ((c.tc : Thread nD τ).loc main_arg1) (ix1 k))
    (fun k n => m ((c.tc : Thread nD τ).loc main_arg2) (ix4 0 0 k n)) (fun f n => m ((c.tc : Thread nD τ).loc main_arg3) (ix4 0 0 f n)) (i 1)

/-- The blocks of rows start at multiples of 1024; the weights and the gain are taken whole. -/
theorem idx : ∀ t : Fin cfg0.N, win0_0.index t = ![t.val, 0] ∧ win0_1.index t = ![0, 0] ∧ win0_2.index t = ![0, 0, 0, 0]
    ∧ win0_3.index t = ![0, 0, 0, 0] ∧ win0_4.index t = ![t.val, 0] :=
  (by decide +kernel : ∀ t : Fin grid0.N, win0_0.index t = ![t.val, 0] ∧ win0_1.index t = ![0, 0] ∧ win0_2.index t = ![0, 0, 0, 0]
    ∧ win0_3.index t = ![0, 0, 0, 0] ∧ win0_4.index t = ![t.val, 0])

/-- The output array at the end of the run. -/
theorem final (c : Dev nD) : (dats m 0 c).arrAt 4 cfg0.N = result m c := by
  refine (dats m 0 c).arrAt_eq_of_covers 4 _ (by decide +kernel) fun t hf y => ?_
  blk_simp
  rw [after0_4]
  unfold outsAt0
  rw [out_eq]
  have e0 (p : Fin 1024) (k : Fin 1024) (hp : p.val = ((y 0 : Fin 1024)).val) : iblk m c 0 t (ix2 p k) = m ((c.tc : Thread nD τ).loc main_arg0) (ix2 ((win0_4.blk t).view.emb y 0) k) :=
    (show _ = V m c main_arg0 (ix2 ((win0_4.blk t).view.emb y 0) k) by blk_ext [iblk, idx t]).trans (congrFun (V_main_arg0 m c) _)
  have e1 (k : Fin 1024) : iblk m c 1 t (ix2 0 k) = m ((c.tc : Thread nD τ).loc main_arg1) (ix1 k) :=
    (show _ = V m c main_v2 (ix2 0 k) by blk_ext [iblk, idx t]).trans (V_v2 m c k)
  have e2 (k : Fin 1024) (n : Fin 5632) : iblk m c 2 t (ix4 0 0 k n) = m ((c.tc : Thread nD τ).loc main_arg2) (ix4 0 0 k n) :=
    (show _ = V m c main_v0 (ix4 0 0 k n) by blk_ext [iblk, idx t]).trans (V_v0 m c _)
  have e3 (f : Fin 2816) (n : Fin 1024) : iblk m c 3 t (ix4 0 0 f n) = m ((c.tc : Thread nD τ).loc main_arg3) (ix4 0 0 f n) :=
    (show _ = V m c main_v1 (ix4 0 0 f n) by blk_ext [iblk, idx t]).trans (V_v1 m c _)
  have e4 : (y 1 : Fin 1024) = (win0_4.blk t).view.emb y 1 := by
    apply Fin.ext
    blk_simp [idx t]
  simp only [ffnV, result, e0 _ _ rfl, e1, e2, e3, e4]

end Cert.Kernel2Ideal.Ffn
end
-- ==== Proof.Ref2.lean ====
module

public import proofs.«01_k».proof.Proof.Gen.Reference2Ideal.Read
public import proofs.«01_k».proof.Proof.Places

@[expose] public section
set_option maxRecDepth 16384
noncomputable section
namespace Cert.Reference2Ideal.Ffn
open Idealize.ShloMosaic Idealize.ShloMosaic.TcCoe Cert.Reference2Ideal Cert.Reference2Ideal.Read Cert.Spec Cert.Places

variable (x0 : (⟨S32768x1024, .f32⟩ : BufTy).Contents (Elt Ideal)) (x1 : (⟨S1024, .f32⟩ : BufTy).Contents (Elt Ideal))
  (x2 : (⟨S2x2x1024x5632, .f32⟩ : BufTy).Contents (Elt Ideal)) (x3 : (⟨S2x2x2816x1024, .f32⟩ : BufTy).Contents (Elt Ideal))

/-- The reference's normalised rows. -/
theorem norm_eq (r : Fin 32768) (k : Fin 1024) : val_main_v12 (F := Ideal) x0 x1 (ix2 r k)
    = normed (fun k => x0 (ix2 r k)) (fun k => x1 (ix1 k)) k := by
  have e (q : Fin 1024) : idx_main_v1 (idx_main_v2 (idx_main_v8 (ix2 r k))) q = ix2 r q := ext2 rfl rfl
  have e' : idx_main_v10 (idx_main_v11 (ix2 r k)) = ix1 k := ext1 rfl
  simp only [val_main_v12_apply, val_main_v9_apply, val_main_v8_apply, val_main_v7_apply, val_main_v6_apply, val_main_v4_apply,
    val_main_v2_apply, val_main_v1_apply, val_main_v0_apply, val_main_v3_apply, val_main_v5_apply, val_main_v10_apply, val_main_v11_apply,
    val_main_cst_apply, val_main_cst_0_apply, val_main_cst_1_apply, e, e', Ideal.mulf_def, Ideal.addf_def, Ideal.hostDivf_def,
    Ideal.hostUnary_rsqrt_def, Ideal.ofBits_def, Ideal.ofBits_zero_f32, zero_add, normed]

/-- The reference's first product: a normalised row against a column of the first weights. -/
theorem proj_eq (r : Fin 32768) (n : Fin 5632) : val_main_v17 (F := Ideal) x0 x1 x2 (ix2 r n)
    = ∑ k, normed (fun k => x0 (ix2 r k)) (fun k => x1 (ix1 k)) k * x2 (ix4 0 0 k n) := by
  rw [val_main_v17_apply]
  refine Finset.sum_congr rfl fun k _ => ?_
  have e : lidx_main_v17 (ix2 r n) k = ix2 r k := ext2 rfl rfl
  rw [e, norm_eq, val_main_v14_apply, val_main_v13_apply]
  congr 2
  exact ext4 rfl rfl (by show (k.val * 5632 + n.val) / 5632 % 1024 = k.val; omega) (by show (k.val * 5632 + n.val) % 5632 = n.val; omega)

/-- The reference's hidden units. -/
theorem hidden_eq (r : Fin 32768) (f : Fin 2816) : val_main_v21 (F := Ideal) x0 x1 x2 (ix2 r f)
    = hiddenUnit (normed (fun k => x0 (ix2 r k)) (fun k => x1 (ix1 k))) (fun k n => x2 (ix4 0 0 k n)) f := by
  have e : idx_main_v18 (ix2 r f) = ix2 r ⟨f.val, by omega⟩ := ext2 rfl rfl
  have e' : idx_main_v19 (ix2 r f) = ix2 r ⟨2816 + f.val, by omega⟩ := ext2 rfl rfl
  simp only [val_main_v21_apply, val_main_v20_apply, val_main_call0_v5_apply, val_main_call0_v4_apply, val_main_call0_v3_apply,
    val_main_call0_v2_apply, val_main_call0_v1_apply, val_main_call0_v0_apply, val_main_call0_cst_apply, val_main_call0_cst_0_apply,
    val_main_v18_apply, val_main_v19_apply, e, e', proj_eq, Ideal.mulf_def, Ideal.addf_def, Ideal.hostDivf_def, Ideal.ofBits_def,
    Ideal.hostUnary_exp_def, Ideal.hostNegf_def, Ideal.negf_def, one_bits, hiddenUnit, gated, Ideal.logistic]

/-- The reference's result: the feed-forward block of every row. -/
theorem val_eq (r : Fin 32768) (n : Fin 1024) : val_main_v25 (F := Ideal) x0 x1 x2 x3 (ix2 r n)
    = ffn (fun k => x0 (ix2 r k)) (fun k => x1 (ix1 k)) (fun k n => x2 (ix4 0 0 k n)) (fun f c => x3 (ix4 0 0 f c)) n := by
  simp only [val_main_v25_apply, val_main_v24_apply, val_main_v23_apply, val_main_cst_2_apply, val_main_v22_apply,
    Ideal.mulf_def, Ideal.addf_def, Ideal.ofBits_def, ffn]
  congr 2
  refine Finset.sum_congr rfl fun f _ => ?_
  have e : lidx_main_v22 (ix2 r n) f = ix2 r f := ext2 rfl rfl
  rw [e, hidden_eq, val_main_v16_apply, val_main_v15_apply]
  congr 2
  exact ext4 rfl rfl (by show (f.val * 1024 + n.val) / 1024 % 2816 = f.val; omega) (by show (f.val * 1024 + n.val) % 1024 = n.val; omega)

/-- Weights of one layer as the first of an array of layers' weights. -/
def lift {M N : ℕ} (w : (⟨2, ![M, N]⟩ : Shape).Idx → EReal) (i : (⟨4, ![2, 2, M, N]⟩ : Shape).Idx) : EReal := w (ix2 (i 2) (i 3))

/-- The first slice of the lifted first weights is the weights. -/
theorem first_lift (w : S1024x5632.Idx → EReal) : val_main_v14 (F := Ideal) (lift w) = w := by
  funext i
  rw [val_main_v14_apply, val_main_v13_apply]
  have h0 : (i 0).val < 1024 := (i 0).isLt
  have h1 : (i 1).val < 5632 := (i 1).isLt
  exact congrArg w (ext2 (by show ((i 0).val * 5632 + (i 1).val) / 5632 % 1024 = (i 0).val; omega) (by show ((i 0).val * 5632 + (i 1).val) % 5632 = (i 1).val; omega))

/-- The first slice of the lifted second weights is the weights. -/
theorem second_lift (w : S2816x1024.Idx → EReal) : val_main_v16 (F := Ideal) (lift w) = w := by
  funext i
  rw [val_main_v16_apply, val_main_v15_apply]
  have h0 : (i 0).val < 2816 := (i 0).isLt
  have h1 : (i 1).val < 1024 := (i 1).isLt
  exact congrArg w (ext2 (by show ((i 0).val * 1024 + (i 1).val) / 1024 % 2816 = (i 0).val; omega) (by show ((i 0).val * 1024 + (i 1).val) % 1024 = (i 1).val; omega))

end Cert.Reference2Ideal.Ffn
end
-- ==== Proof.Claim2.lean ====
module

public import proofs.«01_k».proof.Defs
public import proofs.«01_k».proof.Proof.Arr2
public import proofs.«01_k».proof.Proof.Ref2

@[expose] public section
set_option maxRecDepth 16384
noncomputable section
namespace Cert.Claim2
open Idealize.ShloMosaic Idealize.ShloMosaic.TcCoe Idealize.SL.Sem

/-- The first feed-forward kernel and its reference compute the same array, over the extended reals. -/
theorem algebraic : Cert.algebraic_Kernel2Ideal_Reference2Ideal := by
  intro m g m' g' _ hargs
  refine ⟨fun c => Cert.Kernel2Ideal.Ffn.result m c, ?_, ?_⟩
  · exact (θ_run _ _ _).mono (fun r h c => ⟨(h c).1.trans (Cert.Kernel2Ideal.Ffn.final m c), (h c).2⟩)
      (Cert.Kernel2Ideal.Value.run_blocks m g)
  · refine (θ_run _ _ _).mono (fun r h c => ⟨(h c).1.trans ((Cert.Reference2Ideal.Read.val_main_v25_eq ..).trans ?_), (h c).2⟩)
      (Cert.Reference2Ideal.Value.run m' g')
    obtain ⟨h0, h1, h2, h3⟩ := hargs c
    rw [h0, h1, h2, h3]
    funext i
    exact (congrArg _ (eq_ix2 i)).trans (Cert.Reference2Ideal.Ffn.val_eq _ _ _ _ (i 0) (i 1))

end Cert.Claim2
end
-- ==== Proof.Strided.lean ====
module

public import proofs.«01_k».proof.Proof.FfnCore
public import proofs.«01_k».proof.Proof.Places

/-! A scratch buffer into which a block's residue classes are stored one by one, each at its rows, and which is then
read back as a whole: the block's rows in the order of the tokens. -/

@[expose] public section
set_option maxRecDepth 16384
noncomputable section
namespace Cert.Strided
open Idealize.ShloMosaic Cert.Spec Cert.Cover Cert.FfnCore Cert.Places

/-- A block of `r` residue classes of `n` rows each. -/
abbrev Classes (r n N : ℕ) := (⟨4, ![1, r, n, N]⟩ : Shape).Idx → EReal

/-- A matrix from a block with two leading axes of size one. -/
def lane {n N : ℕ} (v : Classes 1 n N) : Mat n N := fun j => v (ix4 0 0 (j 0) (j 1))

/-- 128 columns, from `o` on, of a block of residue classes, its rows in the order of the tokens. -/
def tokens (r n o : ℕ) (hr : 0 < r) (hn : r * n = 512) (ho : o + 128 ≤ 256) (x : Classes r n 256) : Mat 512 128 := fun j =>
  x (ix4 0 ⟨(j 0).val % r, Nat.mod_lt _ hr⟩ ⟨(j 0).val / r, Nat.div_lt_of_lt_mul (by have : (j 0).val < 512 := (j 0).isLt; omega)⟩
    ⟨o + (j 1).val, by have : (j 1).val < 128 := (j 1).isLt; omega⟩)

/-- All columns of a block of residue classes, its rows in the order of the tokens. -/
def rows (r n : ℕ) (hr : 0 < r) (hn : r * n = 512) (x : Classes r n 256) : Mat 512 256 := fun j =>
  x (ix4 0 ⟨(j 0).val % r, Nat.mod_lt _ hr⟩ ⟨(j 0).val / r, Nat.div_lt_of_lt_mul (by have : (j 0).val < 512 := (j 0).isLt; omega)⟩ (j 1))

section Stores
variable {r n o : ℕ} (hr : 0 < r) (hn : r * n = 512) (ho : o + 128 ≤ 256)

/-- The store of one residue class writes what `tokens` has at its rows; so do the stores before it, by hypothesis. -/
theorem pieces_class (x : Classes r n 256) (i : ℕ) (v : Classes 1 n 128)
    (hi : i < r) (hv : ∀ (p : Fin n) (q : Fin 128), v (ix4 0 0 p q) = x (ix4 0 ⟨i, hi⟩ p ⟨o + q.val, by omega⟩)) (inb) (hs)
    (L : List (View.Piece (Elt Ideal) (⟨2, ![512, 128]⟩ : Shape) .f32)) (hL : View.PiecesOf (tokens r n o hr hn ho x) L) :
    View.PiecesOf (tokens r n o hr hn ho x) ((⟨⟨⟨![i, 0], ![n, 128], ![r, 1], inb⟩, hs⟩, lane v⟩
      : View.Piece (Elt Ideal) (⟨2, ![512, 128]⟩ : Shape) .f32) :: L) := by
  refine ⟨fun (j : (⟨2, ![n, 128]⟩ : Shape).Idx) => ?_, hL⟩
  obtain ⟨p, q, rfl⟩ : ∃ (p : Fin n) (q : Fin 128), j = ix2 p q := ⟨j 0, j 1, eq_ix2 j⟩
  refine (hv p q).trans (congrArg x ?_)
  funext a
  match a with
  | ⟨0, _⟩ => rfl
  | ⟨1, _⟩ => exact Fin.ext (show i = (i + r * p.val) % r by rw [Nat.add_mul_mod_self_left, Nat.mod_eq_of_lt hi])
  | ⟨2, _⟩ => exact Fin.ext (show p.val = (i + r * p.val) / r by rw [Nat.add_mul_div_left _ _ hr, Nat.div_eq_of_lt hi, Nat.zero_add])
  | ⟨3, _⟩ => exact Fin.ext (show o + q.val = o + (0 + 1 * q.val) by omega)

/-- The store of one residue class, loaded from the block itself. -/
theorem pieces_load (x : Classes r n 256) (i : ℕ) (hi : i < r) (inbx) (inb) (hs)
    (L : List (View.Piece (Elt Ideal) (⟨2, ![512, 128]⟩ : Shape) .f32)) (hL : View.PiecesOf (tokens r n o hr hn ho x) L) :
    View.PiecesOf (tokens r n o hr hn ho x) ((⟨⟨⟨![i, 0], ![n, 128], ![r, 1], inb⟩, hs⟩,
      lane fun j : (⟨4, ![1, 1, n, 128]⟩ : Shape).Idx => x ((Rect.unit (s := ⟨4, ![1, r, n, 256]⟩) ![0, i, 0, o] ![1, 1, n, 128] inbx).emb j)⟩
      : View.Piece (Elt Ideal) (⟨2, ![512, 128]⟩ : Shape) .f32) :: L) :=
  pieces_class hr hn ho x i _ hi (fun p q => congrArg x (funext fun a => Fin.ext (by match a with
    | ⟨0, _⟩ => rfl
    | ⟨1, _⟩ => show i + 1 * 0 = i; omega
    | ⟨2, _⟩ => show 0 + 1 * p.val = p.val; omega
    | ⟨3, _⟩ => show o + 1 * q.val = o + q.val; omega))) inb hs L hL

include hn in
/-- A row some store covers: the first one, when the row is of its residue class, or a later one. -/
theorem covers_class (i : ℕ) (inb) (hs) (w)
    (L : List (View.Piece (Elt Ideal) (⟨2, ![512, 128]⟩ : Shape) .f32)) (y : (⟨2, ![512, 128]⟩ : Shape).Idx)
    (h : (y 0).val % r ≠ i → ∃ q ∈ L, y ∈ q.1.set) :
    ∃ q ∈ (⟨⟨⟨![i, 0], ![n, 128], ![r, 1], inb⟩, hs⟩, w⟩ : View.Piece (Elt Ideal) (⟨2, ![512, 128]⟩ : Shape) .f32) :: L, y ∈ q.1.set := by
  refine (covers_cons _ L y).mpr ((Classical.em ((y 0).val % r = i)).imp (fun e => ?_) h)
  have h0 : (y 0).val < 512 := (y 0).isLt
  refine (LoadRect.mem_set _).mpr fun a => ?_
  match a with
  | ⟨0, _⟩ => exact ⟨(y 0).val / r, show (y 0).val / r < n from Nat.div_lt_of_lt_mul (hn.symm ▸ h0), show (y 0).val = i + r * ((y 0).val / r) by rw [← e, Nat.mod_add_div]⟩
  | ⟨1, _⟩ => exact ⟨(y 1).val, (y 1).isLt, show (y 1).val = 0 + 1 * (y 1).val by omega⟩

/-- The scratch buffer read back, after stores that write `tokens` and cover every row. -/
theorem tokens_back (x : Classes r n 256) {sig : RefSig} {κ : Kind} {sp : Space} (v : View sig κ sp (⟨2, ![512, 128]⟩ : Shape) .f32)
    (L : List (View.Piece (Elt Ideal) (⟨2, ![512, 128]⟩ : Shape) .f32)) (inb) (hL : View.PiecesOf (tokens r n o hr hn ho x) L)
    (hcov : ∀ y : (⟨2, ![512, 128]⟩ : Shape).Idx, ∃ q ∈ L, y ∈ q.1.set) :
    v.readCov L (Rect.unit (s := ⟨2, ![512, 128]⟩) ![0, 0] ![512, 128] inb).toLoadRect = tokens r n o hr hn ho x := by
  funext j
  rw [View.readCov_eq_canon']
  have e : (Rect.unit (s := ⟨2, ![512, 128]⟩) ![0, 0] ![512, 128] inb).toLoadRect.idx j = j :=
    funext fun a => Fin.ext (by match a with
      | ⟨0, _⟩ => show 0 + 1 * (j 0).val = (j 0).val; omega
      | ⟨1, _⟩ => show 0 + 1 * (j 1).val = (j 1).val; omega)
  show View.canon L ((Rect.unit (s := ⟨2, ![512, 128]⟩) ![0, 0] ![512, 128] inb).toLoadRect.idx j) = _
  rw [e]
  exact View.canon_apply_of_pieces (tokens r n o hr hn ho x) L hL.mem _ (hcov j)

end Stores
/-- Two blocks of columns side by side. -/
def beside (a b : Mat 512 128) : Mat 512 256 := fun j =>
  if h : (j 1).val < 128 then a (ix2 (j 0) ⟨(j 1).val, h⟩)
  else b (ix2 (j 0) ⟨(j 1).val - 128, by have : (j 1).val < 256 := (j 1).isLt; omega⟩)

/-- The first and the last 128 columns side by side are all columns. -/
theorem beside_tokens (r n : ℕ) (hr : 0 < r) (hn : r * n = 512) (h0) (h1) (x : Classes r n 256) :
    beside (tokens r n 0 hr hn h0 x) (tokens r n 128 hr hn h1 x) = rows r n hr hn x := by
  funext j
  unfold beside
  split
  · exact congrArg x (ext4 rfl rfl rfl (show 0 + (j 1).val = (j 1).val by omega))
  · exact congrArg x (ext4 rfl rfl rfl (show 128 + ((j 1).val - 128) = (j 1).val by omega))

end Cert.Strided
end
-- ==== Proof.Ffn3.lean ====
module

public import proofs.«01_k».proof.Proof.Gen.Kernel3Ideal.Value
public import proofs.«01_k».proof.Proof.Strided

@[expose] public section
set_option maxRecDepth 16384
noncomputable section
namespace Cert.Kernel3Ideal.Ffn
open Idealize.ShloMosaic Idealize.ShloMosaic.TcCoe Idealize.ShloMosaic.Tactic Cert.Kernel3Ideal Cert.Kernel3Ideal.Gen Cert.Spec Cert.Cover Cert.FfnCore Cert.Strided Cert.Places

/-- Two stored blocks of columns, concatenated: one name for every such concatenation. -/
theorem cat_fold (a b : FVec Ideal S512x128 .f32) (h) :
    concatenate S512x256 1 [⟨S512x128, a⟩, ⟨S512x128, b⟩] h = k0_pay48 a b := rfl

/-- The concatenation of two blocks of columns. -/
theorem cat_eq (a b : FVec Ideal S512x128 .f32) : k0_pay48 (F := Ideal) a b = beside a b := by
  unfold k0_pay48
  funext j
  unfold beside
  split
  · rename_i h
    exact concatenate_pair_apply_left 1 a b _ (j : S512x256.Idx) rfl (ix2 (j 0) ⟨(j 1).val, h⟩) (fun x => match x with
      | ⟨0, _⟩ => rfl
      | ⟨1, _⟩ => rfl)
  · rename_i h
    exact concatenate_pair_apply_right 1 a b _ (j : S512x256.Idx) rfl rfl _ (fun x => match x with
      | ⟨0, _⟩ => fun _ => rfl
      | ⟨1, _⟩ => fun h => absurd rfl h) (show (j 1).val - 128 + 128 = (j 1).val by omega)

/-- The same concatenation under another name. -/
theorem cat12 (a b : FVec Ideal S512x128 .f32) : k0_pay12 (F := Ideal) a b = beside a b := cat_eq a b
/-- The same concatenation under another name. -/
theorem cat58 (a b : FVec Ideal S512x128 .f32) : k0_pay58 (F := Ideal) a b = beside a b := cat_eq a b

/-- A residue class of 128 rows, its leading axes dropped. -/
theorem lane128 (v : FVec Ideal S1x1x128x128 FTy.f32) (h) (h') : shapeCast S128x128 (shapeCast S128x128 v h) h' = lane v := by
  funext j
  idx_vars j
  pointwise
  rfl
/-- A residue class of 128 rows, its leading axes dropped, from the shorter format. -/
theorem lane128b (v : FVec Ideal S1x1x128x128 FTy.bf16) (h) (h') (h'') :
    shapeCast S128x128 (extf .f32 (shapeCast S128x128 v h) h'' : FVec Ideal S128x128 .f32) h' = lane v := by
  funext j
  idx_vars j
  pointwise
  rfl
/-- A residue class of 32 rows, its leading axes dropped. -/
theorem lane32 (v : FVec Ideal S1x1x32x128 FTy.f32) (h) (h') : shapeCast S32x128 (shapeCast S32x128 v h) h' = lane v := by
  funext j
  idx_vars j
  pointwise
  rfl
/-- A residue class of 32 rows, its leading axes dropped, from the shorter format. -/
theorem lane32b (v : FVec Ideal S1x1x32x128 FTy.bf16) (h) (h') (h'') :
    shapeCast S32x128 (extf .f32 (shapeCast S32x128 v h) h'' : FVec Ideal S32x128 .f32) h' = lane v := by
  funext j
  idx_vars j
  pointwise
  rfl
/-- A whole block of 512 rows, its leading axes dropped. -/
theorem lane512 (v : FVec Ideal S1x1x512x256 FTy.f32) (h) : shapeCast S512x256 v h = lane v := by
  funext j
  idx_vars j
  pointwise
  rfl
/-- A whole block of 512 rows, its leading axes dropped, from the shorter format. -/
theorem lane512b (v : Vec Ideal S1x1x512x256 .bf16) : k0_pay2 v = lane v := by
  funext j
  idx_vars j
  pointwise [k0_pay2]
  rfl

/-- The output projection's rows, the two halves of the weights given apart. -/
def deltaV (o1 o4 o16 l1 l4 l16 od : Mat 512 256) (u v : Mat 256 1024) : Mat 512 1024 := fun j =>
  ∑ k, merged (l1 (ix2 (j 0) k)) (l4 (ix2 (j 0) k)) (l16 (ix2 (j 0) k)) (o1 (ix2 (j 0) k)) (o4 (ix2 (j 0) k)) (o16 (ix2 (j 0) k)) * u (ix2 k (j 1))
    + ∑ k, od (ix2 (j 0) k) * v (ix2 k (j 1))

/-- The kernel's output projection. -/
theorem delta_eq (v3 v54 v249 v251 v294 : FVec Ideal S512x256 .f32) (v375 v456 : Vec Ideal S512x128 .f32) (u : Vec Ideal S256x1024 .bf16)
    (od : Vec Ideal S512x256 .bf16) (v : Vec Ideal S256x1024 .bf16) :
    k0_pay95 v3 v54 v249 v251 v294 v375 v456 u od v = deltaV v3 v54 v249 v251 v294 (beside v375 v456) od u v := by
  unfold k0_pay95
  simp only [↓cat_fold, cat_eq]
  generalize beside v375 v456 = v457
  funext j
  idx_vars j
  pointwise
  simp only [deltaV, merged, ix2_0, ix2_1]

/-- The kernel's rows with the projection added. -/
theorem plus_eq (x d : FVec Ideal S512x1024 .f32) : k0_pay96 x d = fun j => x j + d j := rfl

/-- The kernel's normalised rows. -/
theorem rms_eq (x d : FVec Ideal S512x1024 .f32) (g : Vec Ideal S1x1024 .f32) : k0_pay97 x d g = normedV (k0_pay96 x d) g := by
  unfold k0_pay97
  generalize k0_pay96 x d = y
  funext j
  idx_vars j
  pointwise
  simp only [normedV, normed, ix2_0, ix2_1]

/-- The kernel's chunk of hidden units. -/
theorem chunk_eq (a : FVec Ideal S512x1024 .bf16) (v w : Vec Ideal S1x1x1024x256 .bf16) : k0_pay101 a v w = chunkV a v w := by
  funext j
  idx_vars j
  pointwise [k0_pay101]
  simp only [chunkV, gated, ix2_0, ix2_1]

/-- The kernel's rows after the feed-forward map. -/
theorem final_eq (a : Vec Ideal S512x1024 .f32) (h : Vec Ideal S512x2816 .bf16) (w : Vec Ideal S1x1x2816x1024 .bf16) :
    k0_pay116 a h w = finalV a h w := by
  funext j
  idx_vars j
  pointwise [k0_pay116]
  simp only [finalV, ix2_0, ix2_1]

/-- The kernel's last store: the rows after the feed-forward map, normalised. -/
theorem last_eq (a : Vec Ideal S512x1024 .f32) (h : Vec Ideal S512x2816 .bf16) (w : Vec Ideal S1x1x2816x1024 .bf16) (g : Vec Ideal S1x1024 .f32) :
    k0_pay1 (k0_pay116 a h w) (k0_pay117 g) (k0_pay118 a h w) = normedV (finalV a h w) g := by
  rw [← final_eq]
  unfold k0_pay118
  generalize k0_pay116 a h w = y
  funext j
  idx_vars j
  pointwise [k0_pay1, k0_pay117]
  simp only [normedV, normed, ix2_0, ix2_1]

section Bridges
variable (a : FVec Ideal S512x1024 .bf16) (x d : FVec Ideal S512x1024 .f32) (g : Vec Ideal S1x1024 .f32) (v w : Vec Ideal S1x1x1024x256 .bf16)

/-! The program prints the same chunk under many names; each is the one chunk. -/

/-- The chunk under another of its names. -/
theorem b98 : k0_pay98 x d g v w = chunkV (k0_pay97 x d g) v w := (chunk_eq (k0_pay97 x d g) v w).symm ▸ rfl
/-- The chunk under another of its names. -/
theorem b100 : k0_pay100 (k0_pay97 x d g) (k0_pay99 x d g v) w = chunkV (k0_pay97 x d g) v w := (chunk_eq (k0_pay97 x d g) v w).symm ▸ rfl
/-- The chunk under another of its names. -/
theorem b105 : k0_pay105 (k0_pay102 a v) (k0_pay103 a w) (k0_pay104 a v) = chunkV a v w := (chunk_eq a v w).symm ▸ rfl
/-- The chunk under another of its names. -/
theorem b106 : k0_pay106 a v w = chunkV a v w := (chunk_eq a v w).symm ▸ rfl
/-- The chunk under another of its names. -/
theorem b107 : k0_pay107 a v w = chunkV a v w := (chunk_eq a v w).symm ▸ rfl
/-- The chunk under another of its names. -/
theorem b108 : k0_pay108 a v w = chunkV a v w := (chunk_eq a v w).symm ▸ rfl
/-- The chunk under another of its names. -/
theorem b109 : k0_pay109 a v w = chunkV a v w := (chunk_eq a v w).symm ▸ rfl
/-- The chunk under another of its names. -/
theorem b111 : k0_pay111 a (k0_pay110 v) (constant S512x256 .f32 0x00000000#32) w = chunkV a v w := (chunk_eq a v w).symm ▸ rfl
/-- The chunk under another of its names. -/
theorem b112 : k0_pay112 a v w = chunkV a v w := (chunk_eq a v w).symm ▸ rfl
/-- The chunk under another of its names. -/
theorem b115 : k0_pay115 a (k0_pay113 a v) (k0_pay114 w) (constant S512x256 .f32 0x00000000#32) = chunkV a v w := (chunk_eq a v w).symm ▸ rfl
end Bridges

/-- A block's rows with the output projection added, the weights given whole. -/
def mixB (x : Mat 512 1024) (o1 o4 o16 l1 l4 l16 od : Mat 512 256) (w : Mat 512 1024) : Mat 512 1024 := fun j =>
  oddMix (fun k => x (ix2 (j 0) k)) (fun k => l1 (ix2 (j 0) k)) (fun k => l4 (ix2 (j 0) k)) (fun k => l16 (ix2 (j 0) k))
    (fun k => o1 (ix2 (j 0) k)) (fun k => o4 (ix2 (j 0) k)) (fun k => o16 (ix2 (j 0) k)) (fun k => od (ix2 (j 0) k))
    (fun k n => w (ix2 k n)) (j 1)

/-- The two halves of the weights, loaded apart, are the weights' halves. -/
theorem mix_ld (x : Mat 512 1024) (o1 o4 o16 l1 l4 l16 od : Mat 512 256) (w : Mat 512 1024) (h0) (h1) :
    (fun j => x j + deltaV o1 o4 o16 l1 l4 l16 od
      (View.ld (Val := Elt Ideal) (e' := .bf16) w (Rect.unit (s := ⟨2, ![512, 1024]⟩) ![0, 0] ![256, 1024] h0))
      (View.ld (Val := Elt Ideal) (e' := .bf16) w (Rect.unit (s := ⟨2, ![512, 1024]⟩) ![256, 0] ![256, 1024] h1)) j)
      = mixB x o1 o4 o16 l1 l4 l16 od w := by
  have e0 (k : Fin 256) (n : Fin 1024) : View.ld (Val := Elt Ideal) (e' := .bf16) w (Rect.unit (s := ⟨2, ![512, 1024]⟩) ![0, 0] ![256, 1024] h0) (ix2 k n)
      = w (ix2 ⟨k.val, by omega⟩ n) := congrArg w (funext fun a => Fin.ext (by match a with
    | ⟨0, _⟩ => show 0 + 1 * k.val = k.val; omega
    | ⟨1, _⟩ => show 0 + 1 * n.val = n.val; omega))
  have e1 (k : Fin 256) (n : Fin 1024) : View.ld (Val := Elt Ideal) (e' := .bf16) w (Rect.unit (s := ⟨2, ![512, 1024]⟩) ![256, 0] ![256, 1024] h1) (ix2 k n)
      = w (ix2 ⟨256 + k.val, by omega⟩ n) := congrArg w (funext fun a => Fin.ext (by match a with
    | ⟨0, _⟩ => show 256 + 1 * k.val = 256 + k.val; omega
    | ⟨1, _⟩ => show 0 + 1 * n.val = n.val; omega))
  funext j
  obtain ⟨r, n, rfl⟩ : ∃ (r : Fin 512) (n : Fin 1024), j = ix2 r n := ⟨j 0, j 1, eq_ix2 j⟩
  simp only [deltaV, mixB, oddMix, e0, e1, ix2_0, ix2_1]

set_option maxHeartbeats 2000000 in
/-- What the body leaves in its output block: the projection of the merged groups added, then every row's feed-forward
map, then the last normalisation. -/
theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024x5632 .bf16) (harg3 : arg3.IsWhole) (arg4 : Memref sig .tc .vmem S1x1x2816x1024 .bf16) (harg4 : arg4.IsWhole) (arg5 : Memref sig .tc .vmem S1x1024 .f32) (harg5 : arg5.IsWhole) (arg6 : Memref sig .tc .vmem S1x1x512x256 .bf16) (harg6 : arg6.IsWhole) (arg7 : Memref sig .tc .vmem S1x4x128x256 .bf16) (harg7 : arg7.IsWhole) (arg8 : Memref sig .tc .vmem S1x16x32x256 .bf16) (harg8 : arg8.IsWhole) (arg9 : Memref sig .tc .vmem S1x1x512x256 .f32) (harg9 : arg9.IsWhole) (arg10 : Memref sig .tc .vmem S1x4x128x256 .f32) (harg10 : arg10.IsWhole) (arg11 : Memref sig .tc .vmem S1x16x32x256 .f32) (harg11 : arg11.IsWhole) (arg12 : Memref sig .tc .vmem S512x256 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x2816 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x128 .f32) (harg23 : arg23.IsWhole)
    (x0 : Vec Ideal S512x1024 .f32) (x1 : Vec Ideal S1x1024 .f32) (x2 : Vec Ideal S1x1x1024x5632 .bf16) (x3 : Vec Ideal S1x1x2816x1024 .bf16) (x4 : Vec Ideal S1x1024 .f32) (x5 : Vec Ideal S1x1x512x256 .bf16) (x6 : Vec Ideal S1x4x128x256 .bf16) (x7 : Vec Ideal S1x16x32x256 .bf16) (x8 : Vec Ideal S1x1x512x256 .f32) (x9 : Vec Ideal S1x4x128x256 .f32) (x10 : Vec Ideal S1x16x32x256 .f32) (x11 : Vec Ideal S512x256 .bf16) (x12 : Vec Ideal S512x1024 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 = normedV (ffnV (mixB x0 (lane x5) (rows 4 128 (by decide) (by decide) x6) (rows 16 32 (by decide) (by decide) x7) (lane x8) (rows 4 128 (by decide) (by decide) x9) (rows 16 32 (by decide) (by decide) x10) x11 x12) x1 x2 x3) x4 := by
  frame_out
  simp only [↓cat_fold]
  simp only [k0_pay3, k0_pay4, k0_pay5, k0_pay6, k0_pay7, k0_pay8, k0_pay9, k0_pay10, k0_pay11, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, harg6.read_unread, harg7.read_unread, harg8.read_unread, harg9.read_unread, harg10.read_unread, harg11.read_unread]
  simp only [lane128, lane128b, lane32, lane32b, lane512, lane512b, cat_eq, cat12, cat58]
  rw [tokens_back (r := 4) (n := 128) (o := 0) (by decide) (by decide) (by decide) x6 arg16.view _ _ ?_ ?_]
  rotate_left
  · iterate 4 refine pieces_load _ _ _ _ _ (by decide) _ _ _ _ ?_
    exact trivial
  · intro y
    have : (y 0).val % 4 < 4 := Nat.mod_lt _ (by decide)
    iterate 4 refine covers_class (r := 4) (n := 128) (by decide) _ _ _ _ _ _ (fun _ => ?_)
    omega
  rw [tokens_back (r := 4) (n := 128) (o := 128) (by decide) (by decide) (by decide) x6 arg17.view _ _ ?_ ?_]
  rotate_left
  · iterate 4 refine pieces_load _ _ _ _ _ (by decide) _ _ _ _ ?_
    exact trivial
  · intro y
    have : (y 0).val % 4 < 4 := Nat.mod_lt _ (by decide)
    iterate 4 refine covers_class (r := 4) (n := 128) (by decide) _ _ _ _ _ _ (fun _ => ?_)
    omega
  rw [tokens_back (r := 16) (n := 32) (o := 0) (by decide) (by decide) (by decide) x7 arg18.view _ _ ?_ ?_]
  rotate_left
  · iterate 16 refine pieces_load _ _ _ _ _ (by decide) _ _ _ _ ?_
    exact trivial
  · intro y
    have : (y 0).val % 16 < 16 := Nat.mod_lt _ (by decide)
    iterate 16 refine covers_class (r := 16) (n := 32) (by decide) _ _ _ _ _ _ (fun _ => ?_)
    omega
  rw [tokens_back (r := 16) (n := 32) (o := 128) (by decide) (by decide) (by decide) x7 arg19.view _ _ ?_ ?_]
  rotate_left
  · iterate 16 refine pieces_load _ _ _ _ _ (by decide) _ _ _ _ ?_
    exact trivial
  · intro y
    have : (y 0).val % 16 < 16 := Nat.mod_lt _ (by decide)
    iterate 16 refine covers_class (r := 16) (n := 32) (by decide) _ _ _ _ _ _ (fun _ => ?_)
    omega
  rw [tokens_back (r := 4) (n := 128) (o := 0) (by decide) (by decide) (by decide) x9 arg20.view _ _ ?_ ?_]
  rotate_left
  · iterate 4 refine pieces_load _ _ _ _ _ (by decide) _ _ _ _ ?_
    exact trivial
  · intro y
    have : (y 0).val % 4 < 4 := Nat.mod_lt _ (by decide)
    iterate 4 refine covers_class (r := 4) (n := 128) (by decide) _ _ _ _ _ _ (fun _ => ?_)
    omega
  rw [tokens_back (r := 4) (n := 128) (o := 128) (by decide) (by decide) (by decide) x9 arg21.view _ _ ?_ ?_]
  rotate_left
  · iterate 4 refine pieces_load _ _ _ _ _ (by decide) _ _ _ _ ?_
    exact trivial
  · intro y
    have : (y 0).val % 4 < 4 := Nat.mod_lt _ (by decide)
    iterate 4 refine covers_class (r := 4) (n := 128) (by decide) _ _ _ _ _ _ (fun _ => ?_)
    omega
  rw [tokens_back (r := 16) (n := 32) (o := 0) (by decide) (by decide) (by decide) x10 arg22.view _ _ ?_ ?_]
  rotate_left
  · iterate 16 refine pieces_load _ _ _ _ _ (by decide) _ _ _ _ ?_
    exact trivial
  · intro y
    have : (y 0).val % 16 < 16 := Nat.mod_lt _ (by decide)
    iterate 16 refine covers_class (r := 16) (n := 32) (by decide) _ _ _ _ _ _ (fun _ => ?_)
    omega
  rw [tokens_back (r := 16) (n := 32) (o := 128) (by decide) (by decide) (by decide) x10 arg23.view _ _ ?_ ?_]
  rotate_left
  · iterate 16 refine pieces_load _ _ _ _ _ (by decide) _ _ _ _ ?_
    exact trivial
  · intro y
    have : (y 0).val % 16 < 16 := Nat.mod_lt _ (by decide)
    iterate 16 refine covers_class (r := 16) (n := 32) (by decide) _ _ _ _ _ _ (fun _ => ?_)
    omega
  simp only [b98, b100, b105, b106, b107, b108, b109, b111, b112, b115, chunk_eq, last_eq]
  simp only [rms_eq, delta_eq, beside_tokens]
  simp only [plus_eq, mix_ld, beside_tokens]
  generalize mixB x0 _ _ _ _ _ _ x11 x12 = y0
  have hR0 := rowsFrom_self y0
  refine congrArg (fun z => normedV z x4) (final_whole y0 x1 x2 x3 _ (act_back y0 x1 x2 0 arg15.view _ ?_ _ ?_))
  · iterate 11 refine pieces_chunk y0 x1 x2 0 _ _ (by norm_num) _ hR0 _ _ _ _ ?_
    exact trivial
  · intro y h0 h1
    iterate 11 refine covers_unit _ _ _ _ _ _ _ _ (fun _ => ?_)
    omega

end Cert.Kernel3Ideal.Ffn
end
-- ==== Proof.Groups.lean ====
module

public import proofs.«01_k».proof.Proof.Places

@[expose] public section
noncomputable section
namespace Cert.Groups
open Idealize.ShloMosaic Cert.Spec Cert.Places

/-- A group's values: for each of 8 sequences, `r` residue classes of `n` rows each. -/
abbrev Group (r n : ℕ) := (⟨4, ![8, r, n, 256]⟩ : Shape).Idx → EReal

/-- A group's values for token `R` of all sequences one after the other: position `R % 4096` of sequence `R / 4096`,
which is a row of its residue class. -/
def tokenRow (r n : ℕ) (hr : 0 < r) (hn : r * n = 4096) (x : Group r n) (R : Fin 32768) (k : Fin 256) : EReal :=
  x (ix4 ⟨R.val / 4096, by omega⟩ ⟨R.val % 4096 % r, Nat.mod_lt _ hr⟩
    ⟨R.val % 4096 / r, Nat.div_lt_of_lt_mul (by rw [hn]; exact Nat.mod_lt _ (by decide))⟩ k)

/-- The value a place's coordinates name is the token's value there. -/
theorem tokenRow_at (r n : ℕ) (hr : 0 < r) (hn : r * n = 4096) (x : Group r n) (R : Fin 32768) (k : Fin 256)
    (b : Fin 8) (p : Fin r) (q : Fin n) (hb : b.val = R.val / 4096) (hp : p.val = R.val % 4096 % r) (hq : q.val = R.val % 4096 / r) :
    x (ix4 b p q k) = tokenRow r n hr hn x R k := congrArg x (ext4 hb hp hq rfl)

/-- A token's row with the odd layer's output projection added, from the groups' arrays. -/
def oddRow (h : (⟨2, ![32768, 1024]⟩ : Shape).Idx → EReal) (o1 l1 : Group 1 4096) (o4 l4 : Group 4 1024) (o16 l16 : Group 16 256)
    (od : (⟨2, ![32768, 256]⟩ : Shape).Idx → EReal) (w : (⟨2, ![512, 1024]⟩ : Shape).Idx → EReal) (R : Fin 32768) : Fin 1024 → EReal :=
  oddMix (fun k => h (ix2 R k)) (tokenRow 1 4096 (by decide) (by decide) l1 R) (tokenRow 4 1024 (by decide) (by decide) l4 R)
    (tokenRow 16 256 (by decide) (by decide) l16 R) (tokenRow 1 4096 (by decide) (by decide) o1 R)
    (tokenRow 4 1024 (by decide) (by decide) o4 R) (tokenRow 16 256 (by decide) (by decide) o16 R)
    (fun k => od (ix2 R k)) (fun k n => w (ix2 k n))

end Cert.Groups
end
-- ==== Proof.Arr3.lean ====
module

public import proofs.«01_k».proof.Proof.Ffn3
public import proofs.«01_k».proof.Proof.Groups
public import Idealize.ShloMosaic.Lib.StableHlo.ReadAt
public import Idealize.ShloMosaic.Lib.Pipeline.ValueKit.Geometry

@[expose] public section
set_option maxRecDepth 16384
noncomputable section
namespace Cert.Kernel3Ideal.Ffn
open Idealize.ShloMosaic Idealize.ShloMosaic.TcCoe Idealize.ShloMosaic.Tactic Cert.Kernel3Ideal Cert.Kernel3Ideal.Gen Cert.Spec Cert.Cover Cert.FfnCore Cert.Strided Cert.Places Cert.Groups

variable (m : (ℓ : Loc nD τ sig) → Buf (Elt Ideal) ℓ)

/-- The projection's weights as the kernel finds them: rounding is the identity here, so they are the argument. -/
theorem V_v0 (c : Dev nD) (i : S512x1024.Idx) : V m c main_v0 i = m ((c.tc : Thread nD τ).loc main_arg12) i := by
  unfold V; after_reads_at

/-- The first weights as the kernel finds them: the argument. -/
theorem V_v1 (c : Dev nD) (i : S2x2x1024x5632.Idx) : V m c main_v1 i = m ((c.tc : Thread nD τ).loc main_arg2) i := by
  unfold V; after_reads_at

/-- The second weights as the kernel finds them: the argument. -/
theorem V_v2 (c : Dev nD) (i : S2x2x2816x1024.Idx) : V m c main_v2 i = m ((c.tc : Thread nD τ).loc main_arg3) i := by
  unfold V; after_reads_at

/-- The gain as the kernel finds it: the argument, laid out as one row. -/
theorem V_v3 (c : Dev nD) (k : Fin 1024) : V m c main_v3 (ix2 0 k) = m ((c.tc : Thread nD τ).loc main_arg1) (ix1 k) := by
  unfold V; after_reads_at

/-- The last gain as the kernel finds it: the argument, laid out as one row. -/
theorem V_v4 (c : Dev nD) (k : Fin 1024) : V m c main_v4 (ix2 0 k) = m ((c.tc : Thread nD τ).loc main_arg4) (ix1 k) := by
  unfold V; after_reads_at

/-- Every row of the output array: the output projection of the row's merged groups and last branch added to the
residual, then the feed-forward block, then the last normalisation. -/
def result (c : Dev nD) : Buf (Elt Ideal) ((c.tc : Thread nD τ).loc main_v5) := fun (i : S32768x1024.Idx) =>
  normed (ffn (oddRow (m ((c.tc : Thread nD τ).loc main_arg0)) (m ((c.tc : Thread nD τ).loc main_arg5)) (m ((c.tc : Thread nD τ).loc main_arg8)) (m ((c.tc : Thread nD τ).loc main_arg6)) (m ((c.tc : Thread nD τ).loc main_arg9))
      (m ((c.tc : Thread nD τ).loc main_arg7)) (m ((c.tc : Thread nD τ).loc main_arg10)) (m ((c.tc : Thread nD τ).loc main_arg11)) (m ((c.tc : Thread nD τ).loc main_arg12)) (i 0))
    (fun k => m ((c.tc : Thread nD τ).loc main_arg1) (ix1 k))
    (fun k n => m ((c.tc : Thread nD τ).loc main_arg2) (ix4 1 1 k n)) (fun f n => m ((c.tc : Thread nD τ).loc main_arg3) (ix4 1 1 f n)))
    (fun k => m ((c.tc : Thread nD τ).loc main_arg4) (ix1 k)) (i 1)

/-- The blocks of rows start at multiples of 512; a group's block is of sequence `t / 8`, and the eight blocks of a
sequence follow one another; the last of the layer's weights are taken whole, and so are the gains and the projection's
weights. -/
theorem idx : ∀ t : Fin cfg0.N, win0_0.index t = ![t.val, 0]
    ∧ win0_1.index t = ![0, 0]
    ∧ win0_2.index t = ![1, 1, 0, 0]
    ∧ win0_3.index t = ![1, 1, 0, 0]
    ∧ win0_4.index t = ![0, 0]
    ∧ win0_5.index t = ![t.val / 8, 0, t.val % 8, 0]
    ∧ win0_6.index t = ![t.val / 8, 0, t.val % 8, 0]
    ∧ win0_7.index t = ![t.val / 8, 0, t.val % 8, 0]
    ∧ win0_8.index t = ![t.val / 8, 0, t.val % 8, 0]
    ∧ win0_9.index t = ![t.val / 8, 0, t.val % 8, 0]
    ∧ win0_10.index t = ![t.val / 8, 0, t.val % 8, 0]
    ∧ win0_11.index t = ![t.val, 0]
    ∧ win0_12.index t = ![0, 0]
    ∧ win0_13.index t = ![t.val, 0] :=
  (by decide +kernel : ∀ t : Fin grid0.N, win0_0.index t = ![t.val, 0]
    ∧ win0_1.index t = ![0, 0]
    ∧ win0_2.index t = ![1, 1, 0, 0]
    ∧ win0_3.index t = ![1, 1, 0, 0]
    ∧ win0_4.index t = ![0, 0]
    ∧ win0_5.index t = ![t.val / 8, 0, t.val % 8, 0]
    ∧ win0_6.index t = ![t.val / 8, 0, t.val % 8, 0]
    ∧ win0_7.index t = ![t.val / 8, 0, t.val % 8, 0]
    ∧ win0_8.index t = ![t.val / 8, 0, t.val % 8, 0]
    ∧ win0_9.index t = ![t.val / 8, 0, t.val % 8, 0]
    ∧ win0_10.index t = ![t.val / 8, 0, t.val % 8, 0]
    ∧ win0_11.index t = ![t.val, 0]
    ∧ win0_12.index t = ![0, 0]
    ∧ win0_13.index t = ![t.val, 0])

/-- The body's output block at a place, in terms of the block's rows. -/
theorem out_at (x0 : Mat 512 1024) (o1 o4 o16 l1 l4 l16 od : Mat 512 256) (w : Mat 512 1024) (g : Mat 1 1024) (wi : Blk 1024 5632) (wo : Blk 2816 1024)
    (gf : Mat 1 1024) (y : (⟨2, ![512, 1024]⟩ : Shape).Idx) : normedV (ffnV (mixB x0 o1 o4 o16 l1 l4 l16 od w) g wi wo) gf y
      = normed (ffn (oddMix (fun k => x0 (ix2 (y 0) k)) (fun k => l1 (ix2 (y 0) k)) (fun k => l4 (ix2 (y 0) k)) (fun k => l16 (ix2 (y 0) k))
          (fun k => o1 (ix2 (y 0) k)) (fun k => o4 (ix2 (y 0) k)) (fun k => o16 (ix2 (y 0) k)) (fun k => od (ix2 (y 0) k)) (fun k n => w (ix2 k n)))
        (fun k => g (ix2 0 k)) (fun k n => wi (ix4 0 0 k n)) (fun f n => wo (ix4 0 0 f n))) (fun k => gf (ix2 0 k)) (y 1) := rfl

section Tile
variable (c : Dev nD) (t : Fin cfg0.N) (p : Fin 512) (R : Fin 32768) (hR : R.val = 512 * t.val + p.val) (k : Fin 256) (h : t.val / 8 < 8)

include hR h in
/-- The first group's values of a row of a block. -/
theorem blk5 : lane (iblk m c 5 t) (ix2 p k) = tokenRow 1 4096 (by decide) (by decide) (m ((c.tc : Thread nD τ).loc main_arg5)) R k := by
  have e : iblk m c 5 t (ix4 0 0 p k) = V m c main_arg5 (ix4 ⟨t.val / 8, h⟩ 0 ⟨512 * (t.val % 8) + p.val, by omega⟩ k) := by blk_ext [iblk, idx t]
  refine e.trans ((congrFun (V_main_arg5 m c) _).trans (tokenRow_at 1 4096 _ _ _ R k _ _ _ ?_ ?_ ?_))
  · show t.val / 8 = R.val / 4096
    omega
  · show 0 = R.val % 4096 % 1
    omega
  · show 512 * (t.val % 8) + p.val = R.val % 4096 / 1
    omega

include hR h in
/-- The second group's values of a row of a block. -/
theorem blk6 : rows 4 128 (by decide) (by decide) (iblk m c 6 t) (ix2 p k) = tokenRow 4 1024 (by decide) (by decide) (m ((c.tc : Thread nD τ).loc main_arg6)) R k := by
  have e : iblk m c 6 t (ix4 0 ⟨p.val % 4, by omega⟩ ⟨p.val / 4, by omega⟩ k) = V m c main_arg6 (ix4 ⟨t.val / 8, h⟩ ⟨p.val % 4, by omega⟩ ⟨128 * (t.val % 8) + p.val / 4, by omega⟩ k) := by blk_ext [iblk, idx t]
  refine e.trans ((congrFun (V_main_arg6 m c) _).trans (tokenRow_at 4 1024 _ _ _ R k _ _ _ ?_ ?_ ?_))
  · show t.val / 8 = R.val / 4096
    omega
  · show p.val % 4 = R.val % 4096 % 4
    omega
  · show 128 * (t.val % 8) + p.val / 4 = R.val % 4096 / 4
    omega

include hR h in
/-- The third group's values of a row of a block. -/
theorem blk7 : rows 16 32 (by decide) (by decide) (iblk m c 7 t) (ix2 p k) = tokenRow 16 256 (by decide) (by decide) (m ((c.tc : Thread nD τ).loc main_arg7)) R k := by
  have e : iblk m c 7 t (ix4 0 ⟨p.val % 16, by omega⟩ ⟨p.val / 16, by omega⟩ k) = V m c main_arg7 (ix4 ⟨t.val / 8, h⟩ ⟨p.val % 16, by omega⟩ ⟨32 * (t.val % 8) + p.val / 16, by omega⟩ k) := by blk_ext [iblk, idx t]
  refine e.trans ((congrFun (V_main_arg7 m c) _).trans (tokenRow_at 16 256 _ _ _ R k _ _ _ ?_ ?_ ?_))
  · show t.val / 8 = R.val / 4096
    omega
  · show p.val % 16 = R.val % 4096 % 16
    omega
  · show 32 * (t.val % 8) + p.val / 16 = R.val % 4096 / 16
    omega

include hR h in
/-- The first group's weights of a row of a block. -/
theorem blk8 : lane (iblk m c 8 t) (ix2 p k) = tokenRow 1 4096 (by decide) (by decide) (m ((c.tc : Thread nD τ).loc main_arg8)) R k := by
  have e : iblk m c 8 t (ix4 0 0 p k) = V m c main_arg8 (ix4 ⟨t.val / 8, h⟩ 0 ⟨512 * (t.val % 8) + p.val, by omega⟩ k) := by blk_ext [iblk, idx t]
  refine e.trans ((congrFun (V_main_arg8 m c) _).trans (tokenRow_at 1 4096 _ _ _ R k _ _ _ ?_ ?_ ?_))
  · show t.val / 8 = R.val / 4096
    omega
  · show 0 = R.val % 4096 % 1
    omega
  · show 512 * (t.val % 8) + p.val = R.val % 4096 / 1
    omega

include hR h in
/-- The second group's weights of a row of a block. -/
theorem blk9 : rows 4 128 (by decide) (by decide) (iblk m c 9 t) (ix2 p k) = tokenRow 4 1024 (by decide) (by decide) (m ((c.tc : Thread nD τ).loc main_arg9)) R k := by
  have e : iblk m c 9 t (ix4 0 ⟨p.val % 4, by omega⟩ ⟨p.val / 4, by omega⟩ k) = V m c main_arg9 (ix4 ⟨t.val / 8, h⟩ ⟨p.val % 4, by omega⟩ ⟨128 * (t.val % 8) + p.val / 4, by omega⟩ k) := by blk_ext [iblk, idx t]
  refine e.trans ((congrFun (V_main_arg9 m c) _).trans (tokenRow_at 4 1024 _ _ _ R k _ _ _ ?_ ?_ ?_))
  · show t.val / 8 = R.val / 4096
    omega
  · show p.val % 4 = R.val % 4096 % 4
    omega
  · show 128 * (t.val % 8) + p.val / 4 = R.val % 4096 / 4
    omega

include hR h in
/-- The third group's weights of a row of a block. -/
theorem blk10 : rows 16 32 (by decide) (by decide) (iblk m c 10 t) (ix2 p k) = tokenRow 16 256 (by decide) (by decide) (m ((c.tc : Thread nD τ).loc main_arg10)) R k := by
  have e : iblk m c 10 t (ix4 0 ⟨p.val % 16, by omega⟩ ⟨p.val / 16, by omega⟩ k) = V m c main_arg10 (ix4 ⟨t.val / 8, h⟩ ⟨p.val % 16, by omega⟩ ⟨32 * (t.val % 8) + p.val / 16, by omega⟩ k) := by blk_ext [iblk, idx t]
  refine e.trans ((congrFun (V_main_arg10 m c) _).trans (tokenRow_at 16 256 _ _ _ R k _ _ _ ?_ ?_ ?_))
  · show t.val / 8 = R.val / 4096
    omega
  · show p.val % 16 = R.val % 4096 % 16
    omega
  · show 32 * (t.val % 8) + p.val / 16 = R.val % 4096 / 16
    omega

end Tile

set_option maxHeartbeats 1000000 in
/-- The output array at the end of the run. -/
theorem final (c : Dev nD) : (dats m 0 c).arrAt 13 cfg0.N = result m c := by
  refine (dats m 0 c).arrAt_eq_of_covers 13 _ (by decide +kernel) fun t hf y => ?_
  blk_simp
  rw [after0_13]
  unfold outsAt0
  rw [out_eq]
  refine (out_at _ _ _ _ _ _ _ _ _ _ _ _ _ y).trans ?_
  have ht : t.val / 8 < 8 := by
    have : t.val < 64 := t.isLt
    omega
  have hR : ((win0_13.blk t).view.emb y 0).val = 512 * t.val + (y 0 : Fin 512).val := by
    blk_simp [idx t]
    omega
  have e0 (p : Fin 512) (k : Fin 1024) (hp : p.val = ((y 0 : Fin 512)).val) : iblk m c 0 t (ix2 p k) = m ((c.tc : Thread nD τ).loc main_arg0) (ix2 ((win0_13.blk t).view.emb y 0) k) :=
    (show _ = V m c main_arg0 (ix2 ((win0_13.blk t).view.emb y 0) k) by blk_ext [iblk, idx t]).trans (congrFun (V_main_arg0 m c) _)
  have e11 (p : Fin 512) (k : Fin 256) (hp : p.val = ((y 0 : Fin 512)).val) : iblk m c 11 t (ix2 p k) = m ((c.tc : Thread nD τ).loc main_arg11) (ix2 ((win0_13.blk t).view.emb y 0) k) :=
    (show _ = V m c main_arg11 (ix2 ((win0_13.blk t).view.emb y 0) k) by blk_ext [iblk, idx t]).trans (congrFun (V_main_arg11 m c) _)
  have e1 (k : Fin 1024) : iblk m c 1 t (ix2 0 k) = m ((c.tc : Thread nD τ).loc main_arg1) (ix1 k) :=
    (show _ = V m c main_v3 (ix2 0 k) by blk_ext [iblk, idx t]).trans (V_v3 m c k)
  have e2 (k : Fin 1024) (n : Fin 5632) : iblk m c 2 t (ix4 0 0 k n) = m ((c.tc : Thread nD τ).loc main_arg2) (ix4 1 1 k n) :=
    (show _ = V m c main_v1 (ix4 1 1 k n) by blk_ext [iblk, idx t]).trans (V_v1 m c _)
  have e3 (f : Fin 2816) (n : Fin 1024) : iblk m c 3 t (ix4 0 0 f n) = m ((c.tc : Thread nD τ).loc main_arg3) (ix4 1 1 f n) :=
    (show _ = V m c main_v2 (ix4 1 1 f n) by blk_ext [iblk, idx t]).trans (V_v2 m c _)
  have e4 (k : Fin 1024) : iblk m c 4 t (ix2 0 k) = m ((c.tc : Thread nD τ).loc main_arg4) (ix1 k) :=
    (show _ = V m c main_v4 (ix2 0 k) by blk_ext [iblk, idx t]).trans (V_v4 m c k)
  have e12 (k : Fin 512) (n : Fin 1024) : iblk m c 12 t (ix2 k n) = m ((c.tc : Thread nD τ).loc main_arg12) (ix2 k n) :=
    (show _ = V m c main_v0 (ix2 k n) by blk_ext [iblk, idx t]).trans (V_v0 m c _)
  have e13 : (y 1 : Fin 1024) = (win0_13.blk t).view.emb y 1 := by
    apply Fin.ext
    blk_simp [idx t]
  simp only [result, oddRow, e0 _ _ rfl, e1, e2, e3, e4, e11 _ _ rfl, e12, e13, blk5 m c t _ _ hR _ ht, blk6 m c t _ _ hR _ ht, blk7 m c t _ _ hR _ ht,
    blk8 m c t _ _ hR _ ht, blk9 m c t _ _ hR _ ht, blk10 m c t _ _ hR _ ht]

end Cert.Kernel3Ideal.Ffn
end
-- ==== Proof.Ref3.lean ====
module

public import proofs.«01_k».proof.Proof.Gen.Reference3Ideal.Read
public import proofs.«01_k».proof.Proof.Ref2
public import proofs.«01_k».proof.Proof.Groups

@[expose] public section
set_option maxRecDepth 16384
noncomputable section
namespace Cert.Reference3Ideal.Ffn
open Cert.Reference2Ideal.Ffn (lift first_lift second_lift)
open Idealize.ShloMosaic Idealize.ShloMosaic.TcCoe Idealize.ShloMosaic.Tactic Cert.Reference3Ideal Cert.Reference3Ideal.Read Cert.Spec Cert.Places Cert.Groups

variable (x0 : (⟨S32768x1024, .f32⟩ : BufTy).Contents (Elt Ideal)) (x1 : (⟨S1024, .f32⟩ : BufTy).Contents (Elt Ideal))
  (x2 : (⟨S2x2x1024x5632, .f32⟩ : BufTy).Contents (Elt Ideal)) (x3 : (⟨S2x2x2816x1024, .f32⟩ : BufTy).Contents (Elt Ideal))
  (x4 : (⟨S1024, .f32⟩ : BufTy).Contents (Elt Ideal)) (x5 : (⟨S8x1x4096x256, .bf16⟩ : BufTy).Contents (Elt Ideal))
  (x6 : (⟨S8x4x1024x256, .bf16⟩ : BufTy).Contents (Elt Ideal)) (x7 : (⟨S8x16x256x256, .bf16⟩ : BufTy).Contents (Elt Ideal))
  (x8 : (⟨S8x1x4096x256, .f32⟩ : BufTy).Contents (Elt Ideal)) (x9 : (⟨S8x4x1024x256, .f32⟩ : BufTy).Contents (Elt Ideal))
  (x10 : (⟨S8x16x256x256, .f32⟩ : BufTy).Contents (Elt Ideal)) (x11 : (⟨S32768x256, .bf16⟩ : BufTy).Contents (Elt Ideal))
  (x12 : (⟨S512x1024, .f32⟩ : BufTy).Contents (Elt Ideal)) (R : Fin 32768) (k : Fin 256)

/-- The reference's re-layout of the first group's values, token by token. -/
theorem tok5 : val_main_v2 (F := Ideal) x5 (ix2 R k) = tokenRow 1 4096 (by decide) (by decide) x5 R k := by
  rw [val_main_v2_apply, val_main_v1_apply, val_main_v0_apply]
  exact congrArg x5 (ext4 (show (R.val * 256 + k.val) / 1048576 = R.val / 4096 by omega) (show 0 = R.val % 4096 % 1 by omega)
    (show (R.val * 256 + k.val) / 256 % 4096 = R.val % 4096 / 1 by omega) (show (R.val * 256 + k.val) % 256 = k.val by omega))

/-- The reference's re-layout of the second group's values, token by token. -/
theorem tok6 : val_main_v5 (F := Ideal) x6 (ix2 R k) = tokenRow 4 1024 (by decide) (by decide) x6 R k := by
  rw [val_main_v5_apply, val_main_v4_apply, val_main_v3_apply]
  exact congrArg x6 (ext4 (show (R.val * 256 + k.val) / 1048576 = R.val / 4096 by omega) (show (R.val * 256 + k.val) / 256 % 4 = R.val % 4096 % 4 by omega)
    (show (R.val * 256 + k.val) / 1024 % 1024 = R.val % 4096 / 4 by omega) (show (R.val * 256 + k.val) % 256 = k.val by omega))

/-- The reference's re-layout of the third group's values, token by token. -/
theorem tok7 : val_main_v8 (F := Ideal) x7 (ix2 R k) = tokenRow 16 256 (by decide) (by decide) x7 R k := by
  rw [val_main_v8_apply, val_main_v7_apply, val_main_v6_apply]
  exact congrArg x7 (ext4 (show (R.val * 256 + k.val) / 1048576 = R.val / 4096 by omega) (show (R.val * 256 + k.val) / 256 % 16 = R.val % 4096 % 16 by omega)
    (show (R.val * 256 + k.val) / 4096 % 256 = R.val % 4096 / 16 by omega) (show (R.val * 256 + k.val) % 256 = k.val by omega))

/-- The reference's re-layout of the first group's weights, token by token. -/
theorem tok8 : val_main_v14 (F := Ideal) x8 (ix2 R k) = tokenRow 1 4096 (by decide) (by decide) x8 R k := by
  rw [val_main_v14_apply, val_main_v13_apply]
  exact congrArg x8 (ext4 (show (R.val * 256 + k.val) / 1048576 = R.val / 4096 by omega) (show 0 = R.val % 4096 % 1 by omega)
    (show (R.val * 256 + k.val) / 256 % 4096 = R.val % 4096 / 1 by omega) (show (R.val * 256 + k.val) % 256 = k.val by omega))

/-- The reference's re-layout of the second group's weights, token by token. -/
theorem tok9 : val_main_v16 (F := Ideal) x9 (ix2 R k) = tokenRow 4 1024 (by decide) (by decide) x9 R k := by
  rw [val_main_v16_apply, val_main_v15_apply]
  exact congrArg x9 (ext4 (show (R.val * 256 + k.val) / 1048576 = R.val / 4096 by omega) (show (R.val * 256 + k.val) / 256 % 4 = R.val % 4096 % 4 by omega)
    (show (R.val * 256 + k.val) / 1024 % 1024 = R.val % 4096 / 4 by omega) (show (R.val * 256 + k.val) % 256 = k.val by omega))

/-- The reference's re-layout of the third group's weights, token by token. -/
theorem tok10 : val_main_v18 (F := Ideal) x10 (ix2 R k) = tokenRow 16 256 (by decide) (by decide) x10 R k := by
  rw [val_main_v18_apply, val_main_v17_apply]
  exact congrArg x10 (ext4 (show (R.val * 256 + k.val) / 1048576 = R.val / 4096 by omega) (show (R.val * 256 + k.val) / 256 % 16 = R.val % 4096 % 16 by omega)
    (show (R.val * 256 + k.val) / 4096 % 256 = R.val % 4096 / 16 by omega) (show (R.val * 256 + k.val) % 256 = k.val by omega))

/-- Three arrays stacked, at a place. -/
theorem stack_at (a b d : S1x32768x256.Idx → EReal) (h) (g : Fin 3) :
    concatenate S3x32768x256 0 [⟨S1x32768x256, a⟩, ⟨S1x32768x256, b⟩, ⟨S1x32768x256, d⟩] h (ix3 g R k) = ![a, b, d] g (ix3 0 R k) :=
  concatenate_ofFn_unit_apply (t := S3x32768x256) (s₁ := S1x32768x256) 0 ![a, b, d] h rfl rfl (ix3 g R k) g rfl (ix3 0 R k)
    (fun x => match x with
      | ⟨0, _⟩ => fun h => absurd rfl h
      | ⟨1, _⟩ => fun _ => rfl
      | ⟨2, _⟩ => fun _ => rfl)

/-- The stacked values at a place. -/
theorem vals_eq (g : Fin 3) : val_main_v12 (F := Ideal) x5 x6 x7 (ix3 g R k)
    = ![tokenRow 1 4096 (by decide) (by decide) x5 R k, tokenRow 4 1024 (by decide) (by decide) x6 R k, tokenRow 16 256 (by decide) (by decide) x7 R k] g := by
  unfold val_main_v12
  refine (stack_at R k _ _ _ _ g).trans ?_
  have e9 : idx_main_v9 (ix3 0 R k) = ix2 R k := ext2 rfl rfl
  have e10 : idx_main_v10 (ix3 0 R k) = ix2 R k := ext2 rfl rfl
  have e11 : idx_main_v11 (ix3 0 R k) = ix2 R k := ext2 rfl rfl
  match g with
  | ⟨0, _⟩ => exact (val_main_v9_apply x5 _).trans (by rw [e9, tok5]; rfl)
  | ⟨1, _⟩ => exact (val_main_v10_apply x6 _).trans (by rw [e10, tok6]; rfl)
  | ⟨2, _⟩ => exact (val_main_v11_apply x7 _).trans (by rw [e11, tok7]; rfl)

/-- The stacked logarithms of the weights at a place. -/
theorem logs_eq (g : Fin 3) : val_main_v22 (F := Ideal) x8 x9 x10 (ix3 g R k)
    = ![tokenRow 1 4096 (by decide) (by decide) x8 R k, tokenRow 4 1024 (by decide) (by decide) x9 R k, tokenRow 16 256 (by decide) (by decide) x10 R k] g := by
  unfold val_main_v22
  refine (stack_at R k _ _ _ _ g).trans ?_
  have e19 : idx_main_v19 (ix3 0 R k) = ix2 R k := ext2 rfl rfl
  have e20 : idx_main_v20 (ix3 0 R k) = ix2 R k := ext2 rfl rfl
  have e21 : idx_main_v21 (ix3 0 R k) = ix2 R k := ext2 rfl rfl
  match g with
  | ⟨0, _⟩ => exact (val_main_v19_apply x8 _).trans (by rw [e19, tok8]; rfl)
  | ⟨1, _⟩ => exact (val_main_v20_apply x9 _).trans (by rw [e20, tok9]; rfl)
  | ⟨2, _⟩ => exact (val_main_v21_apply x10 _).trans (by rw [e21, tok10]; rfl)

/-- The word of minus infinity. -/
theorem bits_bot : Ideal.ofBits FTy.f32 0xFF800000#32 = ⊥ := by simp [Ideal.ofBits, Ideal.ieee]

/-- The three places of the stack. -/
theorem three : (Finset.univ : Finset (Fin 3)) = {0, 1, 2} := by decide

/-- The maximum over the stack. -/
theorem top_eq : val_main_v23 (F := Ideal) x8 x9 x10 (ix2 R k)
    = max (max (val_main_v22 (F := Ideal) x8 x9 x10 (ix3 0 R k)) (val_main_v22 (F := Ideal) x8 x9 x10 (ix3 1 R k))) (val_main_v22 (F := Ideal) x8 x9 x10 (ix3 2 R k)) := by
  unfold val_main_v23
  generalize val_main_v22 (F := Ideal) x8 x9 x10 = y
  pointwise
  rw [val_main_cst_apply, Ideal.ofBits_def, bits_bot, three, Finset.fold_insert (by decide), Finset.fold_insert (by decide), Finset.fold_singleton, max_bot_right, ← max_assoc]

/-- The maximum the exponents are shifted by. -/
theorem shift_eq (g : Fin 3) : val_main_v27 (F := Ideal) x8 x9 x10 (ix3 g R k)
    = max (max (val_main_v22 (F := Ideal) x8 x9 x10 (ix3 0 R k)) (val_main_v22 (F := Ideal) x8 x9 x10 (ix3 1 R k))) (val_main_v22 (F := Ideal) x8 x9 x10 (ix3 2 R k)) := by
  rw [val_main_v27_apply, val_main_v26_apply, show idx_main_v26 (idx_main_v27 (ix3 g R k)) = ix2 R k from ext2 rfl rfl, val_main_v25_apply, val_main_v24_apply,
    val_main_cst_0_apply, Ideal.ofBits_def, bits_bot, Ideal.maximumf_def, max_bot_left, top_eq]

/-- A shifted exponential of the stack. -/
theorem exps_eq (g : Fin 3) : val_main_v29 (F := Ideal) x8 x9 x10 (ix3 g R k)
    = Ideal.exp (val_main_v22 (F := Ideal) x8 x9 x10 (ix3 g R k)
      - max (max (val_main_v22 (F := Ideal) x8 x9 x10 (ix3 0 R k)) (val_main_v22 (F := Ideal) x8 x9 x10 (ix3 1 R k))) (val_main_v22 (F := Ideal) x8 x9 x10 (ix3 2 R k))) := by
  rw [val_main_v29_apply, val_main_v28_apply, shift_eq, Ideal.hostUnary_exp_def, Ideal.subf_def]

/-- The sum of the shifted exponentials. -/
theorem total_eq (g : Fin 3) : val_main_v32 (F := Ideal) x8 x9 x10 (ix3 g R k)
    = val_main_v29 (F := Ideal) x8 x9 x10 (ix3 0 R k) + val_main_v29 (F := Ideal) x8 x9 x10 (ix3 1 R k) + val_main_v29 (F := Ideal) x8 x9 x10 (ix3 2 R k) := by
  have e (g : Fin 3) : idx_main_v30 (ix2 R k) g = ix3 g R k := ext3 rfl rfl rfl
  rw [val_main_v32_apply, val_main_v31_apply, show idx_main_v31 (idx_main_v32 (ix3 g R k)) = ix2 R k from ext2 rfl rfl, val_main_v30_apply,
    val_main_cst_1_apply, Ideal.ofBits_def, Ideal.ofBits_zero_f32, zero_add, Fin.sum_univ_three, e, e, e]

/-- One weighted part of the stack. -/
theorem part_eq (g : Fin 3) : val_main_v34 (F := Ideal) x5 x6 x7 x8 x9 x10 (ix3 g R k)
    = Ideal.div (val_main_v29 (F := Ideal) x8 x9 x10 (ix3 g R k)) (val_main_v29 (F := Ideal) x8 x9 x10 (ix3 0 R k) + val_main_v29 (F := Ideal) x8 x9 x10 (ix3 1 R k) + val_main_v29 (F := Ideal) x8 x9 x10 (ix3 2 R k))
      * val_main_v12 (F := Ideal) x5 x6 x7 (ix3 g R k) := by
  rw [val_main_v34_apply, val_main_v33_apply, total_eq, Ideal.mulf_def, Ideal.hostDivf_def]

/-- The reference's merged groups. -/
theorem merged_eq : val_main_v35 (F := Ideal) x5 x6 x7 x8 x9 x10 (ix2 R k)
    = merged (tokenRow 1 4096 (by decide) (by decide) x8 R k) (tokenRow 4 1024 (by decide) (by decide) x9 R k) (tokenRow 16 256 (by decide) (by decide) x10 R k)
      (tokenRow 1 4096 (by decide) (by decide) x5 R k) (tokenRow 4 1024 (by decide) (by decide) x6 R k) (tokenRow 16 256 (by decide) (by decide) x7 R k) := by
  have e (g : Fin 3) : idx_main_v35 (ix2 R k) g = ix3 g R k := ext3 rfl rfl rfl
  rw [val_main_v35_apply, val_main_cst_2_apply, Ideal.ofBits_def, Ideal.ofBits_zero_f32, zero_add, Fin.sum_univ_three, e, e, e, part_eq, part_eq, part_eq,
    exps_eq, exps_eq, exps_eq, show val_main_v22 (F := Ideal) x8 x9 x10 (ix3 0 R k) = _ from logs_eq x8 x9 x10 R k 0,
    show val_main_v22 (F := Ideal) x8 x9 x10 (ix3 1 R k) = _ from logs_eq x8 x9 x10 R k 1,
    show val_main_v22 (F := Ideal) x8 x9 x10 (ix3 2 R k) = _ from logs_eq x8 x9 x10 R k 2,
    show val_main_v12 (F := Ideal) x5 x6 x7 (ix3 0 R k) = _ from vals_eq x5 x6 x7 R k 0,
    show val_main_v12 (F := Ideal) x5 x6 x7 (ix3 1 R k) = _ from vals_eq x5 x6 x7 R k 1,
    show val_main_v12 (F := Ideal) x5 x6 x7 (ix3 2 R k) = _ from vals_eq x5 x6 x7 R k 2]
  show _ = merged _ _ _ _ _ _
  generalize tokenRow 1 4096 (by decide) (by decide) x8 R k = a
  generalize tokenRow 4 1024 (by decide) (by decide) x9 R k = b
  generalize tokenRow 16 256 (by decide) (by decide) x10 R k = c
  generalize tokenRow 1 4096 (by decide) (by decide) x5 R k = x
  generalize tokenRow 4 1024 (by decide) (by decide) x6 R k = y
  generalize tokenRow 16 256 (by decide) (by decide) x7 R k = z
  simp only [Matrix.cons_val, merged]

/-- The reference's rows with the output projection added: one product over both halves is the sum of the two. -/
theorem mix_eq (n : Fin 1024) : val_main_v39 (F := Ideal) x0 x5 x6 x7 x8 x9 x10 x11 x12 (ix2 R n) = oddRow x0 x5 x8 x6 x9 x7 x10 x11 x12 R n := by
  rw [val_main_v39_apply, val_main_v38_apply]
  have el (k : Fin 512) : lidx_main_v38 (ix2 R n) k = ix2 R k := ext2 rfl rfl
  have er (k : Fin 512) : ridx_main_v38 (ix2 R n) k = ix2 k n := ext2 rfl rfl
  simp only [el, er, oddRow, oddMix, Ideal.addf_def]
  refine congrArg (fun s : EReal => x0 (ix2 R n) + s) ?_
  have hl (k : Fin 256) : val_main_v37 (F := Ideal) x5 x6 x7 x8 x9 x10 x11 (ix2 R ⟨k.val, by omega⟩) = val_main_v35 (F := Ideal) x5 x6 x7 x8 x9 x10 (ix2 R k) :=
    concatenate_pair_apply_left (t := S32768x512) 1 (val_main_v35 (F := Ideal) x5 x6 x7 x8 x9 x10) (val_main_v36 (F := Ideal) x11) _ (ix2 R ⟨k.val, by omega⟩) rfl (ix2 R k) (fun b => match b with | ⟨0, _⟩ => rfl | ⟨1, _⟩ => rfl)
  have hr (k : Fin 256) : val_main_v37 (F := Ideal) x5 x6 x7 x8 x9 x10 x11 (ix2 R ⟨256 + k.val, by omega⟩) = x11 (ix2 R k) :=
    concatenate_pair_apply_right (t := S32768x512) 1 (val_main_v35 (F := Ideal) x5 x6 x7 x8 x9 x10) (val_main_v36 (F := Ideal) x11) _ (ix2 R ⟨256 + k.val, by omega⟩) rfl rfl (ix2 R k) (fun b => match b with | ⟨0, _⟩ => fun _ => rfl | ⟨1, _⟩ => fun h => absurd rfl h)
      (Nat.add_comm k.val 256)
  refine (Fin.sum_univ_add (M := EReal) (a := 256) (b := 256) _).trans (congrArg₂ (· + ·) ?_ ?_)
  · exact Finset.sum_congr rfl fun k _ => congrArg (· * _) ((hl k).trans (merged_eq x5 x6 x7 x8 x9 x10 R k))
  · exact Finset.sum_congr rfl fun k _ => congrArg (· * _) (hr k)

/-- After the projection the reference is the feed-forward reference, on the projected rows and the last weights. -/
theorem eq_ffn : val_main_v65 (F := Ideal) x0 x1 x2 x3 x5 x6 x7 x8 x9 x10 x11 x12
    = Cert.Reference2Ideal.Read.val_main_v25 (F := Ideal) (val_main_v39 (F := Ideal) x0 x5 x6 x7 x8 x9 x10 x11 x12) x1
      (lift (val_main_v54 (F := Ideal) x2)) (lift (val_main_v56 (F := Ideal) x3)) := by
  unfold Cert.Reference2Ideal.Read.val_main_v25 Cert.Reference2Ideal.Read.val_main_v24 Cert.Reference2Ideal.Read.val_main_v22
    Cert.Reference2Ideal.Read.val_main_v21 Cert.Reference2Ideal.Read.val_main_v20 Cert.Reference2Ideal.Read.val_main_call0_v5
    Cert.Reference2Ideal.Read.val_main_call0_v3 Cert.Reference2Ideal.Read.val_main_call0_v1 Cert.Reference2Ideal.Read.val_main_call0_v0
    Cert.Reference2Ideal.Read.val_main_v19 Cert.Reference2Ideal.Read.val_main_v18 Cert.Reference2Ideal.Read.val_main_v17
  rw [first_lift, second_lift]
  rfl

/-- The reference's last step is the feed-forward reference's first, on the new rows and the last gain. -/
theorem eq_norm : val_main_v78 (F := Ideal) x0 x1 x2 x3 x4 x5 x6 x7 x8 x9 x10 x11 x12
    = Cert.Reference2Ideal.Read.val_main_v12 (F := Ideal) (val_main_v65 (F := Ideal) x0 x1 x2 x3 x5 x6 x7 x8 x9 x10 x11 x12) x4 := rfl

/-- The reference's result: the feed-forward block of every projected row, normalised. -/
theorem val_eq (n : Fin 1024) : val_main_v78 (F := Ideal) x0 x1 x2 x3 x4 x5 x6 x7 x8 x9 x10 x11 x12 (ix2 R n)
    = normed (ffn (oddRow x0 x5 x8 x6 x9 x7 x10 x11 x12 R) (fun k => x1 (ix1 k)) (fun k n => x2 (ix4 1 1 k n)) (fun f c => x3 (ix4 1 1 f c)))
      (fun k => x4 (ix1 k)) n := by
  have e2 (k : Fin 1024) (n : Fin 5632) : val_main_v54 (F := Ideal) x2 (ix2 k n) = x2 (ix4 1 1 k n) := by
    rw [val_main_v54_apply, val_main_v53_apply]
    exact congrArg x2 (ext4 rfl rfl (by show (k.val * 5632 + n.val) / 5632 % 1024 = k.val; omega) (by show (k.val * 5632 + n.val) % 5632 = n.val; omega))
  have e3 (k : Fin 2816) (n : Fin 1024) : val_main_v56 (F := Ideal) x3 (ix2 k n) = x3 (ix4 1 1 k n) := by
    rw [val_main_v56_apply, val_main_v55_apply]
    exact congrArg x3 (ext4 rfl rfl (by show (k.val * 1024 + n.val) / 1024 % 2816 = k.val; omega) (by show (k.val * 1024 + n.val) % 1024 = n.val; omega))
  have e (c : Fin 1024) : val_main_v65 (F := Ideal) x0 x1 x2 x3 x5 x6 x7 x8 x9 x10 x11 x12 (ix2 R c)
      = ffn (oddRow x0 x5 x8 x6 x9 x7 x10 x11 x12 R) (fun k => x1 (ix1 k)) (fun k n => x2 (ix4 1 1 k n)) (fun f c => x3 (ix4 1 1 f c)) c := by
    rw [eq_ffn, Cert.Reference2Ideal.Ffn.val_eq]
    simp only [mix_eq]
    show ffn _ _ (fun k n => val_main_v54 (F := Ideal) x2 (ix2 k n)) (fun k n => val_main_v56 (F := Ideal) x3 (ix2 k n)) c = _
    simp only [e2, e3]
  rw [eq_norm, Cert.Reference2Ideal.Ffn.norm_eq]
  simp only [e]

end Cert.Reference3Ideal.Ffn
end
-- ==== Proof.Claim3.lean ====
module

public import proofs.«01_k».proof.Defs
public import proofs.«01_k».proof.Proof.Arr3
public import proofs.«01_k».proof.Proof.Ref3

@[expose] public section
set_option maxRecDepth 16384
noncomputable section
namespace Cert.Claim3
open Idealize.ShloMosaic Idealize.ShloMosaic.TcCoe Idealize.SL.Sem

/-- The odd layer's second feed-forward kernel, with its output projection and the last normalisation, and its reference compute the same array, over the extended reals. -/
theorem algebraic : Cert.algebraic_Kernel3Ideal_Reference3Ideal := by
  intro m g m' g' _ hargs
  refine ⟨fun c => Cert.Kernel3Ideal.Ffn.result m c, ?_, ?_⟩
  · exact (θ_run _ _ _).mono (fun r h c => ⟨(h c).1.trans (Cert.Kernel3Ideal.Ffn.final m c), (h c).2⟩)
      (Cert.Kernel3Ideal.Value.run_blocks m g)
  · refine (θ_run _ _ _).mono (fun r h c => ⟨(h c).1.trans ((Cert.Reference3Ideal.Read.val_main_v78_eq (StableHlo.launchContents m' c)).trans ?_), (h c).2⟩)
      (Cert.Reference3Ideal.Value.run m' g')
    obtain ⟨h0, h1, h2, h3, h4, h5, h6, h7, h8, h9, h10, h11, h12⟩ := hargs c
    rw [show StableHlo.launchContents m' c (Proc.devRef .tc Cert.Reference3Ideal.main_arg0) = _ from h0,
      show StableHlo.launchContents m' c (Proc.devRef .tc Cert.Reference3Ideal.main_arg1) = _ from h1,
      show StableHlo.launchContents m' c (Proc.devRef .tc Cert.Reference3Ideal.main_arg2) = _ from h2,
      show StableHlo.launchContents m' c (Proc.devRef .tc Cert.Reference3Ideal.main_arg3) = _ from h3,
      show StableHlo.launchContents m' c (Proc.devRef .tc Cert.Reference3Ideal.main_arg4) = _ from h4,
      show StableHlo.launchContents m' c (Proc.devRef .tc Cert.Reference3Ideal.main_arg5) = _ from h5,
      show StableHlo.launchContents m' c (Proc.devRef .tc Cert.Reference3Ideal.main_arg6) = _ from h6,
      show StableHlo.launchContents m' c (Proc.devRef .tc Cert.Reference3Ideal.main_arg7) = _ from h7,
      show StableHlo.launchContents m' c (Proc.devRef .tc Cert.Reference3Ideal.main_arg8) = _ from h8,
      show StableHlo.launchContents m' c (Proc.devRef .tc Cert.Reference3Ideal.main_arg9) = _ from h9,
      show StableHlo.launchContents m' c (Proc.devRef .tc Cert.Reference3Ideal.main_arg10) = _ from h10,
      show StableHlo.launchContents m' c (Proc.devRef .tc Cert.Reference3Ideal.main_arg11) = _ from h11,
      show StableHlo.launchContents m' c (Proc.devRef .tc Cert.Reference3Ideal.main_arg12) = _ from h12]
    funext i
    exact (congrArg _ (eq_ix2 i)).trans (Cert.Reference3Ideal.Ffn.val_eq _ _ _ _ _ _ _ _ _ _ _ _ _ (i 0) (i 1))

end Cert.Claim3
end
-- ==== Proof.Ffn4.lean ====
module

public import proofs.«01_k».proof.Proof.Gen.Kernel4Ideal.Value
public import proofs.«01_k».proof.Proof.FfnCore

@[expose] public section
set_option maxRecDepth 16384
noncomputable section
namespace Cert.Kernel4Ideal.Ffn
open Idealize.ShloMosaic Idealize.ShloMosaic.TcCoe Idealize.ShloMosaic.Tactic Cert.Kernel4Ideal Cert.Kernel4Ideal.Gen Cert.Spec Cert.Cover Cert.FfnCore

/-- A block's rows with the output projection added, the two halves of the weights given apart. -/
def mixV (x : Mat 512 1024) (a b d oa : Mat 512 512) (u v : Mat 512 1024) : Mat 512 1024 := fun j =>
  x j + (∑ k, oa (ix2 (j 0) k) * u (ix2 k (j 1)) + ∑ k, (a (ix2 (j 0) k) + b (ix2 (j 0) k) + d (ix2 (j 0) k)) * v (ix2 k (j 1)))

/-- The kernel's rows with the output projection added. -/
theorem mix_eq (x : Vec Ideal S512x1024 .f32) (a b d oa : Vec Ideal S512x512 .bf16) (u v : Vec Ideal S512x1024 .bf16) :
    k0_pay2 x a b d oa u v = mixV x a b d oa u v := by
  funext j
  idx_vars j
  pointwise [k0_pay2]
  simp only [mixV, ix2_0, ix2_1]

/-- The kernel's normalised rows, in the rows with the projection added. -/
theorem rms_eq (x : Vec Ideal S512x1024 .f32) (a b d oa : Vec Ideal S512x512 .bf16) (u v : Vec Ideal S512x1024 .bf16) (g : Vec Ideal S1x1024 .f32) :
    k0_pay3 x a b d oa u v g = normedV (mixV x a b d oa u v) g := by
  rw [← mix_eq]
  unfold k0_pay3
  generalize k0_pay2 x a b d oa u v = y
  funext j
  idx_vars j
  pointwise
  simp only [normedV, normed, ix2_0, ix2_1]

/-- The kernel's chunk of hidden units. -/
theorem chunk_eq (a : Vec Ideal S512x1024 .bf16) (v w : Vec Ideal S1x1x1024x256 .bf16) : k0_pay4 a v w = chunkV a v w := by
  funext j
  idx_vars j
  pointwise [k0_pay4]
  simp only [chunkV, gated, ix2_0, ix2_1]

/-- The kernel's last store. -/
theorem final_eq (a : Vec Ideal S512x1024 .f32) (h : Vec Ideal S512x2816 .bf16) (w : Vec Ideal S1x1x2816x1024 .bf16) :
    k0_pay1 (k0_pay20 a) h (k0_pay21 w) (constant S512x1024 .f32 0x00000000#32) = finalV a h w := by
  funext j
  idx_vars j
  pointwise [k0_pay1, k0_pay20, k0_pay21]
  simp only [finalV, ix2_0, ix2_1]

section Bridges
variable (a : Vec Ideal S512x1024 .bf16) (v w : Vec Ideal S1x1x1024x256 .bf16)

/-! The program prints the same chunk under many names; each is the one chunk. -/

/-- The chunk under another of its names. -/
theorem b5 : k0_pay5 a v w = chunkV a v w := (chunk_eq a v w).symm ▸ rfl
/-- The chunk under another of its names. -/
theorem b7 : k0_pay7 a (k0_pay6 a v) w = chunkV a v w := (chunk_eq a v w).symm ▸ rfl
/-- The chunk under another of its names. -/
theorem b8 : k0_pay8 a v w = chunkV a v w := (chunk_eq a v w).symm ▸ rfl
/-- The chunk under another of its names. -/
theorem b11 : k0_pay11 (k0_pay9 a v) (k0_pay10 a w) = chunkV a v w := (chunk_eq a v w).symm ▸ rfl
/-- The chunk under another of its names. -/
theorem b12 : k0_pay12 a v w = chunkV a v w := (chunk_eq a v w).symm ▸ rfl
/-- The chunk under another of its names. -/
theorem b14 : k0_pay14 (k0_pay13 a v w) = chunkV a v w := (chunk_eq a v w).symm ▸ rfl
/-- The chunk under another of its names. -/
theorem b15 : k0_pay15 a v w = chunkV a v w := (chunk_eq a v w).symm ▸ rfl
/-- The chunk under another of its names. -/
theorem b16 : k0_pay16 a v w = chunkV a v w := (chunk_eq a v w).symm ▸ rfl
/-- The chunk under another of its names. -/
theorem b18 : k0_pay18 a (k0_pay17 v) w = chunkV a v w := (chunk_eq a v w).symm ▸ rfl
/-- The chunk under another of its names. -/
theorem b19 : k0_pay19 a v w = chunkV a v w := (chunk_eq a v w).symm ▸ rfl
end Bridges

/-- A block's rows with the output projection added, the weights given whole. -/
def mixB (x : Mat 512 1024) (oa a b d : Mat 512 512) (w : Mat 1024 1024) : Mat 512 1024 := fun j =>
  evenMix (fun k => x (ix2 (j 0) k)) (fun k => oa (ix2 (j 0) k)) (fun k => a (ix2 (j 0) k)) (fun k => b (ix2 (j 0) k))
    (fun k => d (ix2 (j 0) k)) (fun k n => w (ix2 k n)) (j 1)

/-- The feed-forward map after the projection, at a place. -/
theorem ffnV_mixB (x : Mat 512 1024) (oa a b d : Mat 512 512) (w : Mat 1024 1024) (g : Mat 1 1024) (wi : Blk 1024 5632) (wo : Blk 2816 1024)
    (y : (⟨2, ![512, 1024]⟩ : Shape).Idx) : ffnV (mixB x oa a b d w) g wi wo y
      = ffn (evenMix (fun k => x (ix2 (y 0) k)) (fun k => oa (ix2 (y 0) k)) (fun k => a (ix2 (y 0) k)) (fun k => b (ix2 (y 0) k))
          (fun k => d (ix2 (y 0) k)) (fun k n => w (ix2 k n)))
        (fun k => g (ix2 0 k)) (fun k n => wi (ix4 0 0 k n)) (fun f n => wo (ix4 0 0 f n)) (y 1) := rfl

/-- The two halves of the weights, loaded apart, are the weights' halves. -/
theorem mixV_ld (x : Mat 512 1024) (oa a b d : Mat 512 512) (w : Mat 1024 1024) (h0) (h1) :
    mixV x a b d oa (View.ld (Val := Elt Ideal) (e' := .bf16) w (Rect.unit (s := ⟨2, ![1024, 1024]⟩) ![0, 0] ![512, 1024] h0))
      (View.ld (Val := Elt Ideal) (e' := .bf16) w (Rect.unit (s := ⟨2, ![1024, 1024]⟩) ![512, 0] ![512, 1024] h1)) = mixB x oa a b d w := by
  have e0 (k : Fin 512) (n : Fin 1024) : View.ld (Val := Elt Ideal) (e' := .bf16) w (Rect.unit (s := ⟨2, ![1024, 1024]⟩) ![0, 0] ![512, 1024] h0) (ix2 k n)
      = w (ix2 ⟨k.val, by omega⟩ n) := congrArg w (funext fun a => Fin.ext (by match a with
    | ⟨0, _⟩ => show 0 + 1 * k.val = k.val; omega
    | ⟨1, _⟩ => show 0 + 1 * n.val = n.val; omega))
  have e1 (k : Fin 512) (n : Fin 1024) : View.ld (Val := Elt Ideal) (e' := .bf16) w (Rect.unit (s := ⟨2, ![1024, 1024]⟩) ![512, 0] ![512, 1024] h1) (ix2 k n)
      = w (ix2 ⟨512 + k.val, by omega⟩ n) := congrArg w (funext fun a => Fin.ext (by match a with
    | ⟨0, _⟩ => show 512 + 1 * k.val = 512 + k.val; omega
    | ⟨1, _⟩ => show 0 + 1 * n.val = n.val; omega))
  funext j
  obtain ⟨r, n, rfl⟩ : ∃ (r : Fin 512) (n : Fin 1024), j = ix2 r n := ⟨j 0, j 1, eq_ix2 j⟩
  simp only [mixV, mixB, evenMix, e0, e1, ix2_0, ix2_1]

set_option maxHeartbeats 1000000 in
/-- What the body leaves in its output block: the projection added, then every row's feed-forward map. -/
theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024x5632 .bf16) (harg3 : arg3.IsWhole) (arg4 : Memref sig .tc .vmem S1x1x2816x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x2816 .bf16) (harg11 : arg11.IsWhole)
    (x0 : Vec Ideal S512x1024 .f32) (x1 : Vec Ideal S1x1024 .f32) (x2 : Vec Ideal S1x1x1024x5632 .bf16) (x3 : Vec Ideal S1x1x2816x1024 .bf16) (x4 : Vec Ideal S512x512 .bf16) (x5 : Vec Ideal S512x512 .bf16) (x6 : Vec Ideal S512x512 .bf16) (x7 : Vec Ideal S512x512 .bf16) (x8 : Vec Ideal S1024x1024 .bf16) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = ffnV (mixB x0 x4 x5 x6 x7 x8) x1 x2 x3 := by
  frame_out
  simp only [mix_eq, rms_eq, b5, b7, b8, b11, b12, b14, b15, b16, b18, b19, chunk_eq, final_eq, mixV_ld]
  generalize mixB x0 x4 x5 x6 x7 x8 = y0
  have hR0 := rowsFrom_self y0
  refine final_whole y0 x1 x2 x3 _ (act_back y0 x1 x2 0 arg11.view _ ?_ _ ?_)
  · iterate 11 refine pieces_chunk y0 x1 x2 0 _ _ (by norm_num) _ hR0 _ _ _ _ ?_
    exact trivial
  · intro y h0 h1
    iterate 11 refine covers_unit _ _ _ _ _ _ _ _ (fun _ => ?_)
    omega

end Cert.Kernel4Ideal.Ffn
end
-- ==== Proof.Arr4.lean ====
module

public import proofs.«01_k».proof.Proof.Ffn4
public import Idealize.ShloMosaic.Lib.StableHlo.ReadAt
public import Idealize.ShloMosaic.Lib.Pipeline.ValueKit.Geometry

@[expose] public section
set_option maxRecDepth 16384
noncomputable section
namespace Cert.Kernel4Ideal.Ffn
open Idealize.ShloMosaic Idealize.ShloMosaic.TcCoe Idealize.ShloMosaic.Tactic Cert.Kernel4Ideal Cert.Kernel4Ideal.Gen Cert.Spec Cert.Cover Cert.FfnCore

variable (m : (ℓ : Loc nD τ sig) → Buf (Elt Ideal) ℓ)

/-- The first weights as the kernel finds them: rounding is the identity here, so they are the argument. -/
theorem V_v0 (c : Dev nD) (i : S2x2x1024x5632.Idx) : V m c main_v0 i = m ((c.tc : Thread nD τ).loc main_arg2) i := by
  unfold V; after_reads_at

/-- The second weights as the kernel finds them: the argument. -/
theorem V_v1 (c : Dev nD) (i : S2x2x2816x1024.Idx) : V m c main_v1 i = m ((c.tc : Thread nD τ).loc main_arg3) i := by
  unfold V; after_reads_at

/-- The projection's weights as the kernel finds them: the argument. -/
theorem V_v2 (c : Dev nD) (i : S1024x1024.Idx) : V m c main_v2 i = m ((c.tc : Thread nD τ).loc main_arg8) i := by
  unfold V; after_reads_at

/-- The gain as the kernel finds it: the argument, laid out as one row. -/
theorem V_v3 (c : Dev nD) (k : Fin 1024) : V m c main_v3 (ix2 0 k) = m ((c.tc : Thread nD τ).loc main_arg1) (ix1 k) := by
  unfold V; after_reads_at

/-- Every row of the output array: the output projection of the row's branches added to the residual, then the
feed-forward block. -/
def result (c : Dev nD) : Buf (Elt Ideal) ((c.tc : Thread nD τ).loc main_v4) := fun (i : S32768x1024.Idx) =>
  ffn (evenMix (fun k => m ((c.tc : Thread nD τ).loc main_arg0) (ix2 (i 0) k)) (fun k => m ((c.tc : Thread nD τ).loc main_arg4) (ix2 (i 0) k))
      (fun k => m ((c.tc : Thread nD τ).loc main_arg5) (ix2 (i 0) k)) (fun k => m ((c.tc : Thread nD τ).loc main_arg6) (ix2 (i 0) k))
      (fun k => m ((c.tc : Thread nD τ).loc main_arg7) (ix2 (i 0) k)) (fun k n => m ((c.tc : Thread nD τ).loc main_arg8) (ix2 k n)))
    (fun k => m ((c.tc : Thread nD τ).loc main_arg1) (ix1 k))
    (fun k n => m ((c.tc : Thread nD τ).loc main_arg2) (ix4 0 1 k n)) (fun f n => m ((c.tc : Thread nD τ).loc main_arg3) (ix4 0 1 f n)) (i 1)

/-- The blocks of rows start at multiples of 512; the second of the layer's weights are taken whole, and so are the
gain and the projection's weights. -/
theorem idx : ∀ t : Fin cfg0.N, win0_0.index t = ![t.val, 0] ∧ win0_1.index t = ![0, 0] ∧ win0_2.index t = ![0, 1, 0, 0]
    ∧ win0_3.index t = ![0, 1, 0, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] :=
  (by decide +kernel : ∀ t : Fin grid0.N, win0_0.index t = ![t.val, 0] ∧ win0_1.index t = ![0, 0] ∧ win0_2.index t = ![0, 1, 0, 0]
    ∧ win0_3.index t = ![0, 1, 0, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0])

/-- The output array at the end of the run. -/
theorem final (c : Dev nD) : (dats m 0 c).arrAt 9 cfg0.N = result m c := by
  refine (dats m 0 c).arrAt_eq_of_covers 9 _ (by decide +kernel) fun t hf y => ?_
  blk_simp
  rw [after0_9]
  unfold outsAt0
  rw [out_eq]
  refine (ffnV_mixB _ _ _ _ _ _ _ _ _ y).trans ?_
  have e0 (p : Fin 512) (k : Fin 1024) (hp : p.val = ((y 0 : Fin 512)).val) : iblk m c 0 t (ix2 p k) = m ((c.tc : Thread nD τ).loc main_arg0) (ix2 ((win0_9.blk t).view.emb y 0) k) :=
    (show _ = V m c main_arg0 (ix2 ((win0_9.blk t).view.emb y 0) k) by blk_ext [iblk, idx t]).trans (congrFun (V_main_arg0 m c) _)
  have e4 (p : Fin 512) (k : Fin 512) (hp : p.val = ((y 0 : Fin 512)).val) : iblk m c 4 t (ix2 p k) = m ((c.tc : Thread nD τ).loc main_arg4) (ix2 ((win0_9.blk t).view.emb y 0) k) :=
    (show _ = V m c main_arg4 (ix2 ((win0_9.blk t).view.emb y 0) k) by blk_ext [iblk, idx t]).trans (congrFun (V_main_arg4 m c) _)
  have e5 (p : Fin 512) (k : Fin 512) (hp : p.val = ((y 0 : Fin 512)).val) : iblk m c 5 t (ix2 p k) = m ((c.tc : Thread nD τ).loc main_arg5) (ix2 ((win0_9.blk t).view.emb y 0) k) :=
    (show _ = V m c main_arg5 (ix2 ((win0_9.blk t).view.emb y 0) k) by blk_ext [iblk, idx t]).trans (congrFun (V_main_arg5 m c) _)
  have e6 (p : Fin 512) (k : Fin 512) (hp : p.val = ((y 0 : Fin 512)).val) : iblk m c 6 t (ix2 p k) = m ((c.tc : Thread nD τ).loc main_arg6) (ix2 ((win0_9.blk t).view.emb y 0) k) :=
    (show _ = V m c main_arg6 (ix2 ((win0_9.blk t).view.emb y 0) k) by blk_ext [iblk, idx t]).trans (congrFun (V_main_arg6 m c) _)
  have e7 (p : Fin 512) (k : Fin 512) (hp : p.val = ((y 0 : Fin 512)).val) : iblk m c 7 t (ix2 p k) = m ((c.tc : Thread nD τ).loc main_arg7) (ix2 ((win0_9.blk t).view.emb y 0) k) :=
    (show _ = V m c main_arg7 (ix2 ((win0_9.blk t).view.emb y 0) k) by blk_ext [iblk, idx t]).trans (congrFun (V_main_arg7 m c) _)
  have e1 (k : Fin 1024) : iblk m c 1 t (ix2 0 k) = m ((c.tc : Thread nD τ).loc main_arg1) (ix1 k) :=
    (show _ = V m c main_v3 (ix2 0 k) by blk_ext [iblk, idx t]).trans (V_v3 m c k)
  have e2 (k : Fin 1024) (n : Fin 5632) : iblk m c 2 t (ix4 0 0 k n) = m ((c.tc : Thread nD τ).loc main_arg2) (ix4 0 1 k n) :=
    (show _ = V m c main_v0 (ix4 0 1 k n) by blk_ext [iblk, idx t]).trans (V_v0 m c _)
  have e3 (f : Fin 2816) (n : Fin 1024) : iblk m c 3 t (ix4 0 0 f n) = m ((c.tc : Thread nD τ).loc main_arg3) (ix4 0 1 f n) :=
    (show _ = V m c main_v1 (ix4 0 1 f n) by blk_ext [iblk, idx t]).trans (V_v1 m c _)
  have e8 (k : Fin 1024) (n : Fin 1024) : iblk m c 8 t (ix2 k n) = m ((c.tc : Thread nD τ).loc main_arg8) (ix2 k n) :=
    (show _ = V m c main_v2 (ix2 k n) by blk_ext [iblk, idx t]).trans (V_v2 m c _)
  have e9 : (y 1 : Fin 1024) = (win0_9.blk t).view.emb y 1 := by
    apply Fin.ext
    blk_simp [idx t]
  simp only [result, e0 _ _ rfl, e1, e2, e3, e4 _ _ rfl, e5 _ _ rfl, e6 _ _ rfl, e7 _ _ rfl, e8, e9]

end Cert.Kernel4Ideal.Ffn
end
-- ==== Proof.Ref4.lean ====
module

public import proofs.«01_k».proof.Proof.Gen.Reference4Ideal.Read
public import proofs.«01_k».proof.Proof.Ref2

@[expose] public section
set_option maxRecDepth 16384
noncomputable section
namespace Cert.Reference4Ideal.Ffn
open Cert.Reference2Ideal.Ffn (lift first_lift second_lift)
open Idealize.ShloMosaic Idealize.ShloMosaic.TcCoe Cert.Reference4Ideal Cert.Reference4Ideal.Read Cert.Spec Cert.Places

variable (x0 : (⟨S32768x1024, .f32⟩ : BufTy).Contents (Elt Ideal)) (x1 : (⟨S1024, .f32⟩ : BufTy).Contents (Elt Ideal))
  (x2 : (⟨S2x2x1024x5632, .f32⟩ : BufTy).Contents (Elt Ideal)) (x3 : (⟨S2x2x2816x1024, .f32⟩ : BufTy).Contents (Elt Ideal))
  (x4 x5 x6 x7 : (⟨S32768x512, .bf16⟩ : BufTy).Contents (Elt Ideal)) (x8 : (⟨S1024x1024, .f32⟩ : BufTy).Contents (Elt Ideal))

/-- The residual row with the output projection of its branches added. -/
abbrev row (r : Fin 32768) : Fin 1024 → EReal :=
  evenMix (fun k => x0 (ix2 r k)) (fun k => x4 (ix2 r k)) (fun k => x5 (ix2 r k)) (fun k => x6 (ix2 r k)) (fun k => x7 (ix2 r k)) (fun k n => x8 (ix2 k n))

/-- The reference's rows with the output projection added: one product over both halves is the sum of the two. -/
theorem mix_eq (r : Fin 32768) (n : Fin 1024) : val_main_v8 (F := Ideal) x0 x4 x5 x6 x7 x8 (ix2 r n) = row x0 x4 x5 x6 x7 x8 r n := by
  rw [val_main_v8_apply, val_main_v7_apply]
  have el (k : Fin 1024) : lidx_main_v7 (ix2 r n) k = ix2 r k := ext2 rfl rfl
  have er (k : Fin 1024) : ridx_main_v7 (ix2 r n) k = ix2 k n := ext2 rfl rfl
  simp only [el, er, row, evenMix, Ideal.addf_def]
  congr 1
  have hl (k : Fin 512) : val_main_v6 (F := Ideal) x4 x5 x6 x7 (ix2 r ⟨k.val, by omega⟩) = x4 (ix2 r k) :=
    concatenate_pair_apply_left (t := S32768x1024) 1 (val_main_v5 (F := Ideal) x4) (val_main_v4 (F := Ideal) x5 x6 x7) _ (ix2 r ⟨k.val, by omega⟩) rfl (ix2 r k) (fun b => match b with | ⟨0, _⟩ => rfl | ⟨1, _⟩ => rfl)
  have hr (k : Fin 512) : val_main_v6 (F := Ideal) x4 x5 x6 x7 (ix2 r ⟨512 + k.val, by omega⟩) = x5 (ix2 r k) + x6 (ix2 r k) + x7 (ix2 r k) :=
    concatenate_pair_apply_right (t := S32768x1024) 1 (val_main_v5 (F := Ideal) x4) (val_main_v4 (F := Ideal) x5 x6 x7) _ (ix2 r ⟨512 + k.val, by omega⟩) rfl rfl (ix2 r k) (fun b => match b with | ⟨0, _⟩ => fun _ => rfl | ⟨1, _⟩ => fun h => absurd rfl h)
      (Nat.add_comm k.val 512)
  refine (Fin.sum_univ_add (M := EReal) (a := 512) (b := 512) _).trans (congrArg₂ (· + ·) ?_ ?_)
  · exact Finset.sum_congr rfl fun k _ => congrArg (· * _) (hl k)
  · exact Finset.sum_congr rfl fun k _ => congrArg (· * _) (hr k)

/-- After the projection the reference is the feed-forward reference, on the projected rows and the second weights. -/
theorem eq_ffn : val_main_v34 (F := Ideal) x0 x1 x2 x3 x4 x5 x6 x7 x8
    = Cert.Reference2Ideal.Read.val_main_v25 (F := Ideal) (val_main_v8 (F := Ideal) x0 x4 x5 x6 x7 x8) x1
      (lift (val_main_v23 (F := Ideal) x2)) (lift (val_main_v25 (F := Ideal) x3)) := by
  unfold Cert.Reference2Ideal.Read.val_main_v25 Cert.Reference2Ideal.Read.val_main_v24 Cert.Reference2Ideal.Read.val_main_v22
    Cert.Reference2Ideal.Read.val_main_v21 Cert.Reference2Ideal.Read.val_main_v20 Cert.Reference2Ideal.Read.val_main_call0_v5
    Cert.Reference2Ideal.Read.val_main_call0_v3 Cert.Reference2Ideal.Read.val_main_call0_v1 Cert.Reference2Ideal.Read.val_main_call0_v0
    Cert.Reference2Ideal.Read.val_main_v19 Cert.Reference2Ideal.Read.val_main_v18 Cert.Reference2Ideal.Read.val_main_v17
  rw [first_lift, second_lift]
  rfl

/-- The reference's result: the feed-forward block of every projected row. -/
theorem val_eq (r : Fin 32768) (n : Fin 1024) : val_main_v34 (F := Ideal) x0 x1 x2 x3 x4 x5 x6 x7 x8 (ix2 r n)
    = ffn (row x0 x4 x5 x6 x7 x8 r) (fun k => x1 (ix1 k)) (fun k n => x2 (ix4 0 1 k n)) (fun f c => x3 (ix4 0 1 f c)) n := by
  have e2 (k : Fin 1024) (n : Fin 5632) : val_main_v23 (F := Ideal) x2 (ix2 k n) = x2 (ix4 0 1 k n) := by
    rw [val_main_v23_apply, val_main_v22_apply]
    exact congrArg x2 (ext4 rfl rfl (by show (k.val * 5632 + n.val) / 5632 % 1024 = k.val; omega) (by show (k.val * 5632 + n.val) % 5632 = n.val; omega))
  have e3 (k : Fin 2816) (n : Fin 1024) : val_main_v25 (F := Ideal) x3 (ix2 k n) = x3 (ix4 0 1 k n) := by
    rw [val_main_v25_apply, val_main_v24_apply]
    exact congrArg x3 (ext4 rfl rfl (by show (k.val * 1024 + n.val) / 1024 % 2816 = k.val; omega) (by show (k.val * 1024 + n.val) % 1024 = n.val; omega))
  rw [eq_ffn, Cert.Reference2Ideal.Ffn.val_eq]
  simp only [mix_eq]
  show ffn _ _ (fun k n => val_main_v23 (F := Ideal) x2 (ix2 k n)) (fun k n => val_main_v25 (F := Ideal) x3 (ix2 k n)) n = _
  simp only [e2, e3]

end Cert.Reference4Ideal.Ffn
end
-- ==== Proof.Claim4.lean ====
module

public import proofs.«01_k».proof.Defs
public import proofs.«01_k».proof.Proof.Arr4
public import proofs.«01_k».proof.Proof.Ref4

@[expose] public section
set_option maxRecDepth 16384
noncomputable section
namespace Cert.Claim4
open Idealize.ShloMosaic Idealize.ShloMosaic.TcCoe Idealize.SL.Sem

/-- The even layer's second feed-forward kernel, with its output projection, and its reference compute the same array, over the extended reals. -/
theorem algebraic : Cert.algebraic_Kernel4Ideal_Reference4Ideal := by
  intro m g m' g' _ hargs
  refine ⟨fun c => Cert.Kernel4Ideal.Ffn.result m c, ?_, ?_⟩
  · exact (θ_run _ _ _).mono (fun r h c => ⟨(h c).1.trans (Cert.Kernel4Ideal.Ffn.final m c), (h c).2⟩)
      (Cert.Kernel4Ideal.Value.run_blocks m g)
  · refine (θ_run _ _ _).mono (fun r h c => ⟨(h c).1.trans ((Cert.Reference4Ideal.Read.val_main_v34_eq ..).trans ?_), (h c).2⟩)
      (Cert.Reference4Ideal.Value.run m' g')
    obtain ⟨h0, h1, h2, h3, h4, h5, h6, h7, h8⟩ := hargs c
    rw [h0, h1, h2, h3, h4, h5, h6, h7, h8]
    funext i
    exact (congrArg _ (eq_ix2 i)).trans (Cert.Reference4Ideal.Ffn.val_eq _ _ _ _ _ _ _ _ _ (i 0) (i 1))

end Cert.Claim4
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Claim1
public import proofs.«01_k».proof.Proof.Claim2
public import proofs.«01_k».proof.Proof.Claim3
public import proofs.«01_k».proof.Proof.Claim4

/-! The certificate: every program leaves its arguments and counters as it found them, every idealized program keeps
its kernel's computation, and the idealized kernels compute what their references compute. -/

@[expose] public section

open Idealize.ShloMosaic

namespace Cert.Proof

/-- The reference declares no semaphore and writes no argument. -/
theorem frame_ref1 : Cert.quiescent_ReferenceIdeal := by
  intro m g _
  exact (θ_run _ _ _).mono (fun r h => ⟨fun c => (h c).2, sem_eq_zero_of_no_sems (by decide) r.2⟩)
    (Cert.ReferenceIdeal.Value.run m g)

/-- The plain feed-forward reference declares no semaphore and writes no argument. -/
theorem frame_ref2 : Cert.quiescent_Reference2Ideal := by
  intro m g _
  exact (θ_run _ _ _).mono (fun r h => ⟨fun c => (h c).2, sem_eq_zero_of_no_sems (by decide) r.2⟩)
    (Cert.Reference2Ideal.Value.run m g)

/-- The final feed-forward reference declares no semaphore and writes no argument. -/
theorem frame_ref3 : Cert.quiescent_Reference3Ideal := by
  intro m g _
  exact (θ_run _ _ _).mono (fun r h => ⟨fun c => (h c).2, sem_eq_zero_of_no_sems (by decide) r.2⟩)
    (Cert.Reference3Ideal.Value.run m g)

/-- The even layer's feed-forward reference declares no semaphore and writes no argument. -/
theorem frame_ref4 : Cert.quiescent_Reference4Ideal := by
  intro m g _
  exact (θ_run _ _ _).mono (fun r h => ⟨fun c => (h c).2, sem_eq_zero_of_no_sems (by decide) r.2⟩)
    (Cert.Reference4Ideal.Value.run m g)

/-- The two constants that are named: the mask is the value below every score, the scale is one over eight logarithms
of two. -/
theorem kept : Cert.preserves_Kernel_KernelIdeal :=
  ⟨IdealRules.named_const.statement Cert.KernelIdeal.κ "mask" .f32 0xF149F2CA#32 ⊥ rfl,
    IdealRules.named_const.statement Cert.KernelIdeal.κ "qk_scale" .f32 0x3E38AA3B#32
      ((8⁻¹ * (Real.log 2)⁻¹ : ℝ) : EReal) rfl⟩

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m g _ => Cert.Kernel.Gen.frame m g,
    fun m g _ => Cert.KernelIdeal.Gen.frame m g,
    frame_ref1,
    fun m g _ => Cert.Kernel2.Gen.frame m g,
    fun m g _ => Cert.Kernel2Ideal.Gen.frame m g,
    frame_ref2,
    fun m g _ => Cert.Kernel3.Gen.frame m g,
    fun m g _ => Cert.Kernel3Ideal.Gen.frame m g,
    frame_ref3,
    fun m g _ => Cert.Kernel4.Gen.frame m g,
    fun m g _ => Cert.Kernel4Ideal.Gen.frame m g,
    frame_ref4,
    kept,
    Cert.Claim1.algebraic,
    trivial,
    Cert.Claim2.algebraic,
    trivial,
    Cert.Claim3.algebraic,
    trivial,
    Cert.Claim4.algebraic⟩

end Cert.Proof
